-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x32x512 : Shape := ⟨3, ![32, 32, 512]⟩
abbrev S32x512 : Shape := ⟨2, ![32, 512]⟩
abbrev S32 : Shape := ⟨1, ![32]⟩
abbrev S_ : Shape := ⟨0, ![]⟩
abbrev S1 : Shape := ⟨1, ![1]⟩
abbrev S1x32x512 : Shape := ⟨3, ![1, 32, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S32x32x512, .bf16⟩
  | .local _ .vmem, ⟨4, _⟩ => ⟨S32x512, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v133 : BitVec 32 := Scalar.addi v2 c1_i32_128
  let c32_i32_129 : BitVec 32 := 32#32
  let v134 : BitVec 32 := Scalar.remsi v133 c32_i32_129
  let c32_i32_130 : BitVec 32 := 32#32
  let v135 : BitVec 32 := Scalar.muli v134 c32_i32_130
  let c0_i32_138 : BitVec 32 := 0#32
  ![v135.toNat, 0]
def k0_dev32 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v133 : BitVec 32 := Scalar.addi v2 c1_i32_128
  let c32_i32_129 : BitVec 32 := 32#32
  let v134 : BitVec 32 := Scalar.remsi v133 c32_i32_129
  let c1_i32_134 : BitVec 32 := 1#32
  let v136 : BitVec 32 := Scalar.muli v134 c1_i32_134
  let v137 : BitVec 32 := Scalar.addi c0_i32_135 v136
  v137.toNat
def k0_dev33 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_139 : BitVec 32 := 2#32
  let v145 : BitVec 32 := Scalar.addi v2 c2_i32_139
  let c32_i32_140 : BitVec 32 := 32#32
  let v146 : BitVec 32 := Scalar.remsi v145 c32_i32_140
  let c1_i32_145 : BitVec 32 := 1#32
  let v148 : BitVec 32 := Scalar.muli v146 c1_i32_145
  let v149 : BitVec 32 := Scalar.addi c0_i32_146 v148
  v149.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v157 : BitVec 32 := Scalar.addi v2 c3_i32_150
  let c32_i32_151 : BitVec 32 := 32#32
  let v158 : BitVec 32 := Scalar.remsi v157 c32_i32_151
  let c1_i32_156 : BitVec 32 := 1#32
  let v160 : BitVec 32 := Scalar.muli v158 c1_i32_156
  let v161 : BitVec 32 := Scalar.addi c0_i32_157 v160
  v161.toNat
def k0_dev35 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v169 : BitVec 32 := Scalar.addi v2 c4_i32_161
  let c32_i32_162 : BitVec 32 := 32#32
  let v170 : BitVec 32 := Scalar.remsi v169 c32_i32_162
  let c1_i32_167 : BitVec 32 := 1#32
  let v172 : BitVec 32 := Scalar.muli v170 c1_i32_167
  let v173 : BitVec 32 := Scalar.addi c0_i32_168 v172
  v173.toNat
def k0_dev36 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_172 : BitVec 32 := 5#32
  let v181 : BitVec 32 := Scalar.addi v2 c5_i32_172
  let c32_i32_173 : BitVec 32 := 32#32
  let v182 : BitVec 32 := Scalar.remsi v181 c32_i32_173
  let c1_i32_178 : BitVec 32 := 1#32
  let v184 : BitVec 32 := Scalar.muli v182 c1_i32_178
  let v185 : BitVec 32 := Scalar.addi c0_i32_179 v184
  v185.toNat
def k0_dev37 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_183 : BitVec 32 := 6#32
  let v193 : BitVec 32 := Scalar.addi v2 c6_i32_183
  let c32_i32_184 : BitVec 32 := 32#32
  let v194 : BitVec 32 := Scalar.remsi v193 c32_i32_184
  let c1_i32_189 : BitVec 32 := 1#32
  let v196 : BitVec 32 := Scalar.muli v194 c1_i32_189
  let v197 : BitVec 32 := Scalar.addi c0_i32_190 v196
  v197.toNat
def k0_dev38 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_194 : BitVec 32 := 7#32
  let v205 : BitVec 32 := Scalar.addi v2 c7_i32_194
  let c32_i32_195 : BitVec 32 := 32#32
  let v206 : BitVec 32 := Scalar.remsi v205 c32_i32_195
  let c1_i32_200 : BitVec 32 := 1#32
  let v208 : BitVec 32 := Scalar.muli v206 c1_i32_200
  let v209 : BitVec 32 := Scalar.addi c0_i32_201 v208
  v209.toNat
def k0_dev39 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_205 : BitVec 32 := 8#32
  let v217 : BitVec 32 := Scalar.addi v2 c8_i32_205
  let c32_i32_206 : BitVec 32 := 32#32
  let v218 : BitVec 32 := Scalar.remsi v217 c32_i32_206
  let c1_i32_211 : BitVec 32 := 1#32
  let v220 : BitVec 32 := Scalar.muli v218 c1_i32_211
  let v221 : BitVec 32 := Scalar.addi c0_i32_212 v220
  v221.toNat
def k0_dev40 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_216 : BitVec 32 := 9#32
  let v229 : BitVec 32 := Scalar.addi v2 c9_i32_216
  let c32_i32_217 : BitVec 32 := 32#32
  let v230 : BitVec 32 := Scalar.remsi v229 c32_i32_217
  let c1_i32_222 : BitVec 32 := 1#32
  let v232 : BitVec 32 := Scalar.muli v230 c1_i32_222
  let v233 : BitVec 32 := Scalar.addi c0_i32_223 v232
  v233.toNat
def k0_dev41 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_227 : BitVec 32 := 10#32
  let v241 : BitVec 32 := Scalar.addi v2 c10_i32_227
  let c32_i32_228 : BitVec 32 := 32#32
  let v242 : BitVec 32 := Scalar.remsi v241 c32_i32_228
  let c1_i32_233 : BitVec 32 := 1#32
  let v244 : BitVec 32 := Scalar.muli v242 c1_i32_233
  let v245 : BitVec 32 := Scalar.addi c0_i32_234 v244
  v245.toNat
def k0_dev42 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_238 : BitVec 32 := 11#32
  let v253 : BitVec 32 := Scalar.addi v2 c11_i32_238
  let c32_i32_239 : BitVec 32 := 32#32
  let v254 : BitVec 32 := Scalar.remsi v253 c32_i32_239
  let c1_i32_244 : BitVec 32 := 1#32
  let v256 : BitVec 32 := Scalar.muli v254 c1_i32_244
  let v257 : BitVec 32 := Scalar.addi c0_i32_245 v256
  v257.toNat
def k0_dev43 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_249 : BitVec 32 := 12#32
  let v265 : BitVec 32 := Scalar.addi v2 c12_i32_249
  let c32_i32_250 : BitVec 32 := 32#32
  let v266 : BitVec 32 := Scalar.remsi v265 c32_i32_250
  let c1_i32_255 : BitVec 32 := 1#32
  let v268 : BitVec 32 := Scalar.muli v266 c1_i32_255
  let v269 : BitVec 32 := Scalar.addi c0_i32_256 v268
  v269.toNat
def k0_dev44 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_260 : BitVec 32 := 13#32
  let v277 : BitVec 32 := Scalar.addi v2 c13_i32_260
  let c32_i32_261 : BitVec 32 := 32#32
  let v278 : BitVec 32 := Scalar.remsi v277 c32_i32_261
  let c1_i32_266 : BitVec 32 := 1#32
  let v280 : BitVec 32 := Scalar.muli v278 c1_i32_266
  let v281 : BitVec 32 := Scalar.addi c0_i32_267 v280
  v281.toNat
def k0_dev45 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_271 : BitVec 32 := 14#32
  let v289 : BitVec 32 := Scalar.addi v2 c14_i32_271
  let c32_i32_272 : BitVec 32 := 32#32
  let v290 : BitVec 32 := Scalar.remsi v289 c32_i32_272
  let c1_i32_277 : BitVec 32 := 1#32
  let v292 : BitVec 32 := Scalar.muli v290 c1_i32_277
  let v293 : BitVec 32 := Scalar.addi c0_i32_278 v292
  v293.toNat
def k0_dev46 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_282 : BitVec 32 := 15#32
  let v301 : BitVec 32 := Scalar.addi v2 c15_i32_282
  let c32_i32_283 : BitVec 32 := 32#32
  let v302 : BitVec 32 := Scalar.remsi v301 c32_i32_283
  let c1_i32_288 : BitVec 32 := 1#32
  let v304 : BitVec 32 := Scalar.muli v302 c1_i32_288
  let v305 : BitVec 32 := Scalar.addi c0_i32_289 v304
  v305.toNat
def k0_dev47 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_293 : BitVec 32 := 16#32
  let v313 : BitVec 32 := Scalar.addi v2 c16_i32_293
  let c32_i32_294 : BitVec 32 := 32#32
  let v314 : BitVec 32 := Scalar.remsi v313 c32_i32_294
  let c1_i32_299 : BitVec 32 := 1#32
  let v316 : BitVec 32 := Scalar.muli v314 c1_i32_299
  let v317 : BitVec 32 := Scalar.addi c0_i32_300 v316
  v317.toNat
def k0_dev48 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_304 : BitVec 32 := 17#32
  let v325 : BitVec 32 := Scalar.addi v2 c17_i32_304
  let c32_i32_305 : BitVec 32 := 32#32
  let v326 : BitVec 32 := Scalar.remsi v325 c32_i32_305
  let c1_i32_310 : BitVec 32 := 1#32
  let v328 : BitVec 32 := Scalar.muli v326 c1_i32_310
  let v329 : BitVec 32 := Scalar.addi c0_i32_311 v328
  v329.toNat
def k0_dev49 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_315 : BitVec 32 := 18#32
  let v337 : BitVec 32 := Scalar.addi v2 c18_i32_315
  let c32_i32_316 : BitVec 32 := 32#32
  let v338 : BitVec 32 := Scalar.remsi v337 c32_i32_316
  let c1_i32_321 : BitVec 32 := 1#32
  let v340 : BitVec 32 := Scalar.muli v338 c1_i32_321
  let v341 : BitVec 32 := Scalar.addi c0_i32_322 v340
  v341.toNat
def k0_dev50 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_326 : BitVec 32 := 19#32
  let v349 : BitVec 32 := Scalar.addi v2 c19_i32_326
  let c32_i32_327 : BitVec 32 := 32#32
  let v350 : BitVec 32 := Scalar.remsi v349 c32_i32_327
  let c1_i32_332 : BitVec 32 := 1#32
  let v352 : BitVec 32 := Scalar.muli v350 c1_i32_332
  let v353 : BitVec 32 := Scalar.addi c0_i32_333 v352
  v353.toNat
def k0_dev51 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_337 : BitVec 32 := 20#32
  let v361 : BitVec 32 := Scalar.addi v2 c20_i32_337
  let c32_i32_338 : BitVec 32 := 32#32
  let v362 : BitVec 32 := Scalar.remsi v361 c32_i32_338
  let c1_i32_343 : BitVec 32 := 1#32
  let v364 : BitVec 32 := Scalar.muli v362 c1_i32_343
  let v365 : BitVec 32 := Scalar.addi c0_i32_344 v364
  v365.toNat
def k0_dev52 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_348 : BitVec 32 := 21#32
  let v373 : BitVec 32 := Scalar.addi v2 c21_i32_348
  let c32_i32_349 : BitVec 32 := 32#32
  let v374 : BitVec 32 := Scalar.remsi v373 c32_i32_349
  let c1_i32_354 : BitVec 32 := 1#32
  let v376 : BitVec 32 := Scalar.muli v374 c1_i32_354
  let v377 : BitVec 32 := Scalar.addi c0_i32_355 v376
  v377.toNat
def k0_dev53 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_359 : BitVec 32 := 22#32
  let v385 : BitVec 32 := Scalar.addi v2 c22_i32_359
  let c32_i32_360 : BitVec 32 := 32#32
  let v386 : BitVec 32 := Scalar.remsi v385 c32_i32_360
  let c1_i32_365 : BitVec 32 := 1#32
  let v388 : BitVec 32 := Scalar.muli v386 c1_i32_365
  let v389 : BitVec 32 := Scalar.addi c0_i32_366 v388
  v389.toNat
def k0_dev54 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_370 : BitVec 32 := 23#32
  let v397 : BitVec 32 := Scalar.addi v2 c23_i32_370
  let c32_i32_371 : BitVec 32 := 32#32
  let v398 : BitVec 32 := Scalar.remsi v397 c32_i32_371
  let c1_i32_376 : BitVec 32 := 1#32
  let v400 : BitVec 32 := Scalar.muli v398 c1_i32_376
  let v401 : BitVec 32 := Scalar.addi c0_i32_377 v400
  v401.toNat
def k0_dev55 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_381 : BitVec 32 := 24#32
  let v409 : BitVec 32 := Scalar.addi v2 c24_i32_381
  let c32_i32_382 : BitVec 32 := 32#32
  let v410 : BitVec 32 := Scalar.remsi v409 c32_i32_382
  let c1_i32_387 : BitVec 32 := 1#32
  let v412 : BitVec 32 := Scalar.muli v410 c1_i32_387
  let v413 : BitVec 32 := Scalar.addi c0_i32_388 v412
  v413.toNat
def k0_dev56 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_392 : BitVec 32 := 25#32
  let v421 : BitVec 32 := Scalar.addi v2 c25_i32_392
  let c32_i32_393 : BitVec 32 := 32#32
  let v422 : BitVec 32 := Scalar.remsi v421 c32_i32_393
  let c1_i32_398 : BitVec 32 := 1#32
  let v424 : BitVec 32 := Scalar.muli v422 c1_i32_398
  let v425 : BitVec 32 := Scalar.addi c0_i32_399 v424
  v425.toNat
def k0_dev57 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_403 : BitVec 32 := 26#32
  let v433 : BitVec 32 := Scalar.addi v2 c26_i32_403
  let c32_i32_404 : BitVec 32 := 32#32
  let v434 : BitVec 32 := Scalar.remsi v433 c32_i32_404
  let c1_i32_409 : BitVec 32 := 1#32
  let v436 : BitVec 32 := Scalar.muli v434 c1_i32_409
  let v437 : BitVec 32 := Scalar.addi c0_i32_410 v436
  v437.toNat
def k0_dev58 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_414 : BitVec 32 := 27#32
  let v445 : BitVec 32 := Scalar.addi v2 c27_i32_414
  let c32_i32_415 : BitVec 32 := 32#32
  let v446 : BitVec 32 := Scalar.remsi v445 c32_i32_415
  let c1_i32_420 : BitVec 32 := 1#32
  let v448 : BitVec 32 := Scalar.muli v446 c1_i32_420
  let v449 : BitVec 32 := Scalar.addi c0_i32_421 v448
  v449.toNat
def k0_dev59 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_425 : BitVec 32 := 28#32
  let v457 : BitVec 32 := Scalar.addi v2 c28_i32_425
  let c32_i32_426 : BitVec 32 := 32#32
  let v458 : BitVec 32 := Scalar.remsi v457 c32_i32_426
  let c1_i32_431 : BitVec 32 := 1#32
  let v460 : BitVec 32 := Scalar.muli v458 c1_i32_431
  let v461 : BitVec 32 := Scalar.addi c0_i32_432 v460
  v461.toNat
def k0_dev60 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_436 : BitVec 32 := 29#32
  let v469 : BitVec 32 := Scalar.addi v2 c29_i32_436
  let c32_i32_437 : BitVec 32 := 32#32
  let v470 : BitVec 32 := Scalar.remsi v469 c32_i32_437
  let c1_i32_442 : BitVec 32 := 1#32
  let v472 : BitVec 32 := Scalar.muli v470 c1_i32_442
  let v473 : BitVec 32 := Scalar.addi c0_i32_443 v472
  v473.toNat
def k0_dev61 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_447 : BitVec 32 := 30#32
  let v481 : BitVec 32 := Scalar.addi v2 c30_i32_447
  let c32_i32_448 : BitVec 32 := 32#32
  let v482 : BitVec 32 := Scalar.remsi v481 c32_i32_448
  let c1_i32_453 : BitVec 32 := 1#32
  let v484 : BitVec 32 := Scalar.muli v482 c1_i32_453
  let v485 : BitVec 32 := Scalar.addi c0_i32_454 v484
  v485.toNat
def k0_dev62 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_458 : BitVec 32 := 31#32
  let v493 : BitVec 32 := Scalar.addi v2 c31_i32_458
  let c32_i32_459 : BitVec 32 := 32#32
  let v494 : BitVec 32 := Scalar.remsi v493 c32_i32_459
  let c1_i32_464 : BitVec 32 := 1#32
  let v496 : BitVec 32 := Scalar.muli v494 c1_i32_464
  let v497 : BitVec 32 := Scalar.addi c0_i32_465 v496
  v497.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_469 : BitVec 32 := 32#32
  let v505 : BitVec 32 := Scalar.muli v2 c32_i32_469
  let v506 : Index := Scalar.indexCast v505
  let c0_470 : Index := 0#32
  ![v506.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_816 : BitVec 32 := 32#32
  let v865 : BitVec 32 := Scalar.muli v2 c32_i32_816
  let c0_i32_821 : BitVec 32 := 0#32
  ![v865.toNat, 0]
def k0_dev63 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_814 : BitVec 32 := 1#32
  let v863 : BitVec 32 := Scalar.addi v2 c1_i32_814
  let c32_i32_815 : BitVec 32 := 32#32
  let v864 : BitVec 32 := Scalar.remsi v863 c32_i32_815
  let c1_i32_819 : BitVec 32 := 1#32
  let v866 : BitVec 32 := Scalar.muli v864 c1_i32_819
  let v867 : BitVec 32 := Scalar.addi c0_i32_820 v866
  v867.toNat
def k0_dev64 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_822 : BitVec 32 := 2#32
  let v873 : BitVec 32 := Scalar.addi v2 c2_i32_822
  let c32_i32_823 : BitVec 32 := 32#32
  let v874 : BitVec 32 := Scalar.remsi v873 c32_i32_823
  let c1_i32_827 : BitVec 32 := 1#32
  let v876 : BitVec 32 := Scalar.muli v874 c1_i32_827
  let v877 : BitVec 32 := Scalar.addi c0_i32_828 v876
  v877.toNat
def k0_dev65 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_830 : BitVec 32 := 3#32
  let v883 : BitVec 32 := Scalar.addi v2 c3_i32_830
  let c32_i32_831 : BitVec 32 := 32#32
  let v884 : BitVec 32 := Scalar.remsi v883 c32_i32_831
  let c1_i32_835 : BitVec 32 := 1#32
  let v886 : BitVec 32 := Scalar.muli v884 c1_i32_835
  let v887 : BitVec 32 := Scalar.addi c0_i32_836 v886
  v887.toNat
def k0_dev66 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_838 : BitVec 32 := 4#32
  let v893 : BitVec 32 := Scalar.addi v2 c4_i32_838
  let c32_i32_839 : BitVec 32 := 32#32
  let v894 : BitVec 32 := Scalar.remsi v893 c32_i32_839
  let c1_i32_843 : BitVec 32 := 1#32
  let v896 : BitVec 32 := Scalar.muli v894 c1_i32_843
  let v897 : BitVec 32 := Scalar.addi c0_i32_844 v896
  v897.toNat
def k0_dev67 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_846 : BitVec 32 := 5#32
  let v903 : BitVec 32 := Scalar.addi v2 c5_i32_846
  let c32_i32_847 : BitVec 32 := 32#32
  let v904 : BitVec 32 := Scalar.remsi v903 c32_i32_847
  let c1_i32_851 : BitVec 32 := 1#32
  let v906 : BitVec 32 := Scalar.muli v904 c1_i32_851
  let v907 : BitVec 32 := Scalar.addi c0_i32_852 v906
  v907.toNat
def k0_dev68 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_854 : BitVec 32 := 6#32
  let v913 : BitVec 32 := Scalar.addi v2 c6_i32_854
  let c32_i32_855 : BitVec 32 := 32#32
  let v914 : BitVec 32 := Scalar.remsi v913 c32_i32_855
  let c1_i32_859 : BitVec 32 := 1#32
  let v916 : BitVec 32 := Scalar.muli v914 c1_i32_859
  let v917 : BitVec 32 := Scalar.addi c0_i32_860 v916
  v917.toNat
def k0_dev69 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_862 : BitVec 32 := 7#32
  let v923 : BitVec 32 := Scalar.addi v2 c7_i32_862
  let c32_i32_863 : BitVec 32 := 32#32
  let v924 : BitVec 32 := Scalar.remsi v923 c32_i32_863
  let c1_i32_867 : BitVec 32 := 1#32
  let v926 : BitVec 32 := Scalar.muli v924 c1_i32_867
  let v927 : BitVec 32 := Scalar.addi c0_i32_868 v926
  v927.toNat
def k0_dev70 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_870 : BitVec 32 := 8#32
  let v933 : BitVec 32 := Scalar.addi v2 c8_i32_870
  let c32_i32_871 : BitVec 32 := 32#32
  let v934 : BitVec 32 := Scalar.remsi v933 c32_i32_871
  let c1_i32_875 : BitVec 32 := 1#32
  let v936 : BitVec 32 := Scalar.muli v934 c1_i32_875
  let v937 : BitVec 32 := Scalar.addi c0_i32_876 v936
  v937.toNat
def k0_dev71 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_878 : BitVec 32 := 9#32
  let v943 : BitVec 32 := Scalar.addi v2 c9_i32_878
  let c32_i32_879 : BitVec 32 := 32#32
  let v944 : BitVec 32 := Scalar.remsi v943 c32_i32_879
  let c1_i32_883 : BitVec 32 := 1#32
  let v946 : BitVec 32 := Scalar.muli v944 c1_i32_883
  let v947 : BitVec 32 := Scalar.addi c0_i32_884 v946
  v947.toNat
def k0_dev72 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_886 : BitVec 32 := 10#32
  let v953 : BitVec 32 := Scalar.addi v2 c10_i32_886
  let c32_i32_887 : BitVec 32 := 32#32
  let v954 : BitVec 32 := Scalar.remsi v953 c32_i32_887
  let c1_i32_891 : BitVec 32 := 1#32
  let v956 : BitVec 32 := Scalar.muli v954 c1_i32_891
  let v957 : BitVec 32 := Scalar.addi c0_i32_892 v956
  v957.toNat
def k0_dev73 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_894 : BitVec 32 := 11#32
  let v963 : BitVec 32 := Scalar.addi v2 c11_i32_894
  let c32_i32_895 : BitVec 32 := 32#32
  let v964 : BitVec 32 := Scalar.remsi v963 c32_i32_895
  let c1_i32_899 : BitVec 32 := 1#32
  let v966 : BitVec 32 := Scalar.muli v964 c1_i32_899
  let v967 : BitVec 32 := Scalar.addi c0_i32_900 v966
  v967.toNat
def k0_dev74 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_902 : BitVec 32 := 12#32
  let v973 : BitVec 32 := Scalar.addi v2 c12_i32_902
  let c32_i32_903 : BitVec 32 := 32#32
  let v974 : BitVec 32 := Scalar.remsi v973 c32_i32_903
  let c1_i32_907 : BitVec 32 := 1#32
  let v976 : BitVec 32 := Scalar.muli v974 c1_i32_907
  let v977 : BitVec 32 := Scalar.addi c0_i32_908 v976
  v977.toNat
def k0_dev75 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_910 : BitVec 32 := 13#32
  let v983 : BitVec 32 := Scalar.addi v2 c13_i32_910
  let c32_i32_911 : BitVec 32 := 32#32
  let v984 : BitVec 32 := Scalar.remsi v983 c32_i32_911
  let c1_i32_915 : BitVec 32 := 1#32
  let v986 : BitVec 32 := Scalar.muli v984 c1_i32_915
  let v987 : BitVec 32 := Scalar.addi c0_i32_916 v986
  v987.toNat
def k0_dev76 (d0 : Dev nD) : Nat :=
  let c0_i32_924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_918 : BitVec 32 := 14#32
  let v993 : BitVec 32 := Scalar.addi v2 c14_i32_918
  let c32_i32_919 : BitVec 32 := 32#32
  let v994 : BitVec 32 := Scalar.remsi v993 c32_i32_919
  let c1_i32_923 : BitVec 32 := 1#32
  let v996 : BitVec 32 := Scalar.muli v994 c1_i32_923
  let v997 : BitVec 32 := Scalar.addi c0_i32_924 v996
  v997.toNat
def k0_dev77 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_926 : BitVec 32 := 15#32
  let v1003 : BitVec 32 := Scalar.addi v2 c15_i32_926
  let c32_i32_927 : BitVec 32 := 32#32
  let v1004 : BitVec 32 := Scalar.remsi v1003 c32_i32_927
  let c1_i32_931 : BitVec 32 := 1#32
  let v1006 : BitVec 32 := Scalar.muli v1004 c1_i32_931
  let v1007 : BitVec 32 := Scalar.addi c0_i32_932 v1006
  v1007.toNat
def k0_dev78 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_934 : BitVec 32 := 16#32
  let v1013 : BitVec 32 := Scalar.addi v2 c16_i32_934
  let c32_i32_935 : BitVec 32 := 32#32
  let v1014 : BitVec 32 := Scalar.remsi v1013 c32_i32_935
  let c1_i32_939 : BitVec 32 := 1#32
  let v1016 : BitVec 32 := Scalar.muli v1014 c1_i32_939
  let v1017 : BitVec 32 := Scalar.addi c0_i32_940 v1016
  v1017.toNat
def k0_dev79 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_942 : BitVec 32 := 17#32
  let v1023 : BitVec 32 := Scalar.addi v2 c17_i32_942
  let c32_i32_943 : BitVec 32 := 32#32
  let v1024 : BitVec 32 := Scalar.remsi v1023 c32_i32_943
  let c1_i32_947 : BitVec 32 := 1#32
  let v1026 : BitVec 32 := Scalar.muli v1024 c1_i32_947
  let v1027 : BitVec 32 := Scalar.addi c0_i32_948 v1026
  v1027.toNat
def k0_dev80 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_950 : BitVec 32 := 18#32
  let v1033 : BitVec 32 := Scalar.addi v2 c18_i32_950
  let c32_i32_951 : BitVec 32 := 32#32
  let v1034 : BitVec 32 := Scalar.remsi v1033 c32_i32_951
  let c1_i32_955 : BitVec 32 := 1#32
  let v1036 : BitVec 32 := Scalar.muli v1034 c1_i32_955
  let v1037 : BitVec 32 := Scalar.addi c0_i32_956 v1036
  v1037.toNat
def k0_dev81 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_958 : BitVec 32 := 19#32
  let v1043 : BitVec 32 := Scalar.addi v2 c19_i32_958
  let c32_i32_959 : BitVec 32 := 32#32
  let v1044 : BitVec 32 := Scalar.remsi v1043 c32_i32_959
  let c1_i32_963 : BitVec 32 := 1#32
  let v1046 : BitVec 32 := Scalar.muli v1044 c1_i32_963
  let v1047 : BitVec 32 := Scalar.addi c0_i32_964 v1046
  v1047.toNat
def k0_dev82 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_966 : BitVec 32 := 20#32
  let v1053 : BitVec 32 := Scalar.addi v2 c20_i32_966
  let c32_i32_967 : BitVec 32 := 32#32
  let v1054 : BitVec 32 := Scalar.remsi v1053 c32_i32_967
  let c1_i32_971 : BitVec 32 := 1#32
  let v1056 : BitVec 32 := Scalar.muli v1054 c1_i32_971
  let v1057 : BitVec 32 := Scalar.addi c0_i32_972 v1056
  v1057.toNat
def k0_dev83 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_974 : BitVec 32 := 21#32
  let v1063 : BitVec 32 := Scalar.addi v2 c21_i32_974
  let c32_i32_975 : BitVec 32 := 32#32
  let v1064 : BitVec 32 := Scalar.remsi v1063 c32_i32_975
  let c1_i32_979 : BitVec 32 := 1#32
  let v1066 : BitVec 32 := Scalar.muli v1064 c1_i32_979
  let v1067 : BitVec 32 := Scalar.addi c0_i32_980 v1066
  v1067.toNat
def k0_dev84 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_982 : BitVec 32 := 22#32
  let v1073 : BitVec 32 := Scalar.addi v2 c22_i32_982
  let c32_i32_983 : BitVec 32 := 32#32
  let v1074 : BitVec 32 := Scalar.remsi v1073 c32_i32_983
  let c1_i32_987 : BitVec 32 := 1#32
  let v1076 : BitVec 32 := Scalar.muli v1074 c1_i32_987
  let v1077 : BitVec 32 := Scalar.addi c0_i32_988 v1076
  v1077.toNat
def k0_dev85 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_990 : BitVec 32 := 23#32
  let v1083 : BitVec 32 := Scalar.addi v2 c23_i32_990
  let c32_i32_991 : BitVec 32 := 32#32
  let v1084 : BitVec 32 := Scalar.remsi v1083 c32_i32_991
  let c1_i32_995 : BitVec 32 := 1#32
  let v1086 : BitVec 32 := Scalar.muli v1084 c1_i32_995
  let v1087 : BitVec 32 := Scalar.addi c0_i32_996 v1086
  v1087.toNat
def k0_dev86 (d0 : Dev nD) : Nat :=
  let c0_i32_1004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_998 : BitVec 32 := 24#32
  let v1093 : BitVec 32 := Scalar.addi v2 c24_i32_998
  let c32_i32_999 : BitVec 32 := 32#32
  let v1094 : BitVec 32 := Scalar.remsi v1093 c32_i32_999
  let c1_i32_1003 : BitVec 32 := 1#32
  let v1096 : BitVec 32 := Scalar.muli v1094 c1_i32_1003
  let v1097 : BitVec 32 := Scalar.addi c0_i32_1004 v1096
  v1097.toNat
def k0_dev87 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1006 : BitVec 32 := 25#32
  let v1103 : BitVec 32 := Scalar.addi v2 c25_i32_1006
  let c32_i32_1007 : BitVec 32 := 32#32
  let v1104 : BitVec 32 := Scalar.remsi v1103 c32_i32_1007
  let c1_i32_1011 : BitVec 32 := 1#32
  let v1106 : BitVec 32 := Scalar.muli v1104 c1_i32_1011
  let v1107 : BitVec 32 := Scalar.addi c0_i32_1012 v1106
  v1107.toNat
def k0_dev88 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1014 : BitVec 32 := 26#32
  let v1113 : BitVec 32 := Scalar.addi v2 c26_i32_1014
  let c32_i32_1015 : BitVec 32 := 32#32
  let v1114 : BitVec 32 := Scalar.remsi v1113 c32_i32_1015
  let c1_i32_1019 : BitVec 32 := 1#32
  let v1116 : BitVec 32 := Scalar.muli v1114 c1_i32_1019
  let v1117 : BitVec 32 := Scalar.addi c0_i32_1020 v1116
  v1117.toNat
def k0_dev89 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1022 : BitVec 32 := 27#32
  let v1123 : BitVec 32 := Scalar.addi v2 c27_i32_1022
  let c32_i32_1023 : BitVec 32 := 32#32
  let v1124 : BitVec 32 := Scalar.remsi v1123 c32_i32_1023
  let c1_i32_1027 : BitVec 32 := 1#32
  let v1126 : BitVec 32 := Scalar.muli v1124 c1_i32_1027
  let v1127 : BitVec 32 := Scalar.addi c0_i32_1028 v1126
  v1127.toNat
def k0_dev90 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1030 : BitVec 32 := 28#32
  let v1133 : BitVec 32 := Scalar.addi v2 c28_i32_1030
  let c32_i32_1031 : BitVec 32 := 32#32
  let v1134 : BitVec 32 := Scalar.remsi v1133 c32_i32_1031
  let c1_i32_1035 : BitVec 32 := 1#32
  let v1136 : BitVec 32 := Scalar.muli v1134 c1_i32_1035
  let v1137 : BitVec 32 := Scalar.addi c0_i32_1036 v1136
  v1137.toNat
def k0_dev91 (d0 : Dev nD) : Nat :=
  let c0_i32_1044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1038 : BitVec 32 := 29#32
  let v1143 : BitVec 32 := Scalar.addi v2 c29_i32_1038
  let c32_i32_1039 : BitVec 32 := 32#32
  let v1144 : BitVec 32 := Scalar.remsi v1143 c32_i32_1039
  let c1_i32_1043 : BitVec 32 := 1#32
  let v1146 : BitVec 32 := Scalar.muli v1144 c1_i32_1043
  let v1147 : BitVec 32 := Scalar.addi c0_i32_1044 v1146
  v1147.toNat
def k0_dev92 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1046 : BitVec 32 := 30#32
  let v1153 : BitVec 32 := Scalar.addi v2 c30_i32_1046
  let c32_i32_1047 : BitVec 32 := 32#32
  let v1154 : BitVec 32 := Scalar.remsi v1153 c32_i32_1047
  let c1_i32_1051 : BitVec 32 := 1#32
  let v1156 : BitVec 32 := Scalar.muli v1154 c1_i32_1051
  let v1157 : BitVec 32 := Scalar.addi c0_i32_1052 v1156
  v1157.toNat
def k0_dev93 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1054 : BitVec 32 := 31#32
  let v1163 : BitVec 32 := Scalar.addi v2 c31_i32_1054
  let c32_i32_1055 : BitVec 32 := 32#32
  let v1164 : BitVec 32 := Scalar.remsi v1163 c32_i32_1055
  let c1_i32_1059 : BitVec 32 := 1#32
  let v1166 : BitVec 32 := Scalar.muli v1164 c1_i32_1059
  let v1167 : BitVec 32 := Scalar.addi c0_i32_1060 v1166
  v1167.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S32x1024x512 : Shape := ⟨3, ![32, 1024, 512]⟩
abbrev S_ : Shape := ⟨0, ![]⟩
abbrev S1024x512 : Shape := ⟨2, ![1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32x1024x512, .bf16⟩
  | .hbm, ⟨2, _⟩ => ⟨S32x1024x512, .f32⟩
  | .hbm, ⟨3, _⟩ => ⟨S_, .f32⟩
  | .hbm, ⟨4, _⟩ => ⟨S1024x512, .f32⟩
  | .hbm, ⟨5, _⟩ => ⟨S1024x512, .bf16⟩
  | .hbm, ⟨6, _⟩ => ⟨S_, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Loops.lean ====
/-
The kernel's body written as seven loops over the other thirty-one devices. The printed body has every iteration of
every loop written out; here each loop is one function of the list of iterations still to run, and the printed body is
shown to be the loops run over all thirty-one. Iteration `i` (0 … 30) concerns the device `i + 1` places ahead, whose
messages arrive in slot `31 - i`.
-/
module

public import proofs.«01_k».proof.Proof.Gen.KernelIdeal
public import proofs.«01_k».proof.Proof.Gen.KernelIdeal.Skeleton

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-- A program of the kernel's core, returning nothing. -/
abbrev KProg (F : FTy → Type) : Type 1 := Prog (TpuEff nD τ sig (Elt F) Λ₀ .tc) PUnit

/-! ## The device addressed in iteration `i` -/

/-- The number of the device `w` places ahead of `d`, computed with the kernel's word operations. -/
def ahead (d : Dev nD) (w : BitVec 32) : ℕ :=
  (Scalar.addi 0#32 (Scalar.muli (Scalar.remsi (Scalar.addi (Scalar.remsi (Scalar.divsi (Dev.word d) 1#32) 32#32) w) 32#32) 1#32)).toNat

/-- In closed form: `i + 1` places ahead, around the thirty-two devices. -/
theorem ahead_eq : ∀ (d : Dev nD) (i : Fin 31), ahead d (BitVec.ofNat 32 (1 + i.val)) = (d.val + (i.val + 1)) % 32 := by
  decide +kernel

/-- The device addressed is one of the thirty-two. -/
theorem ahead_lt (d : Dev nD) (i : Fin 31) : ahead d (BitVec.ofNat 32 (1 + i.val)) < nD := by
  rw [ahead_eq]; exact Nat.mod_lt _ (by decide)

/-- The device `i + 1` places ahead of `d`. -/
def peer (d : Dev nD) (i : Fin 31) : Dev nD := ⟨ahead d (BitVec.ofNat 32 (1 + i.val)), ahead_lt d i⟩

/-- The number of the device addressed. -/
theorem peer_val (d : Dev nD) (i : Fin 31) : (peer d i).val = (d.val + (i.val + 1)) % 32 := ahead_eq d i

/-! ## The buffers and semaphores by name -/

/-- The staged argument. -/
abbrev xM : Memref sig .tc .vmem S1024x512 .bf16 := Memref.whole cc0_stg0_0
/-- The staged result. -/
abbrev oM : Memref sig .tc .vmem S1024x512 .bf16 := Memref.whole cc0_stg1_0
/-- The copy of the argument that is sent. -/
abbrev tM : Memref sig .tc .vmem S1024x512 .bf16 := Memref.whole cc0_scratch0
/-- The receive buffer. -/
abbrev rM : Memref sig .tc .vmem S32x32x512 .bf16 := Memref.whole cc0_scratch1
/-- The finished block. -/
abbrev fM : Memref sig .tc .vmem S32x512 .bf16 := Memref.whole cc0_scratch2

/-- The barrier semaphore. -/
abbrev barS : Sem sig := (SemArray.scalar (sig.barrier 0 rfl) : Sems sig S_).sem

/-- A semaphore's place in its array of thirty-two. -/
theorem inbSem (n : ℕ) (h : n < 32) : ∀ a, (![n] : Fin 1 → ℕ) a + S1.size a ≤ S32.size a := by
  intro a; fin_cases a; exact h

/-- A slot's place in the receive buffer. -/
theorem inbSlot (n : ℕ) (h : n < 32) : ∀ a, (![n, 0, 0] : Fin 3 → ℕ) a + S1x32x512.size a ≤ S32x32x512.size a := by
  intro a; fin_cases a
  · exact h
  · exact Nat.le_refl 32
  · exact Nat.le_refl 512

/-- Entry `n` of a thirty-two-entry semaphore array. -/
abbrev semAt (A : DmaSems sig S32) (n : ℕ) (h : n < 32) : DmaSem sig :=
  ((A.slice (Rect.unit (s := S32) ![n] S1.size (inbSem n h))).squeeze S_ squeezes_S1_S_).sem

/-- A send semaphore's number is below thirty-two. -/
theorem lt_fwd (i : Fin 31) : 1 + i.val < 32 := by omega
/-- A receive semaphore's number is below thirty-two. -/
theorem lt_bwd (i : Fin 31) : 31 - i.val < 32 := by omega

/-- Iteration `i`'s semaphores: the two a sender waits on, the two a receiver waits on. -/
abbrev sendA (i : Fin 31) : DmaSem sig := semAt cc0_scratch3 (1 + i.val) (lt_fwd i)
/-- The second round's send semaphore. -/
abbrev sendB (i : Fin 31) : DmaSem sig := semAt cc0_scratch4 (1 + i.val) (lt_fwd i)
/-- The first round's receive semaphore. -/
abbrev recvA (i : Fin 31) : DmaSem sig := semAt cc0_scratch5 (31 - i.val) (lt_bwd i)
/-- The second round's receive semaphore. -/
abbrev recvB (i : Fin 31) : DmaSem sig := semAt cc0_scratch6 (31 - i.val) (lt_bwd i)

/-- The rectangle of slot `31 - i` of the receive buffer. -/
abbrev slotR (i : Fin 31) : Rect S32x32x512 := Rect.unit (s := S32x32x512) ![31 - i.val, 0, 0] S1x32x512.size (inbSlot _ (lt_bwd i))

/-- A slot is whole words. -/
theorem slotR_words (i : Fin 31) : (slotR i).WholeWords (EltTy.packing .bf16) := by revert i; decide

/-- Slot `31 - i` of the receive buffer. -/
abbrev slotM (i : Fin 31) : Memref sig .tc .vmem S32x512 .bf16 := (rM.slice (slotR i) (fun _ => rfl)).squeeze S32x512 squeezes_S1x32x512_S32x512

/-- The rows of the sent copy that belong to the device of iteration `i`. -/
abbrev peerR (d : Dev nD) (i : Fin 31) : Rect S1024x512 := Rect.unit (s := S1024x512) (k0_off1 d (BitVec.ofNat 32 (1 + i.val))) S32x512.size (k0_off1_inb d i)
/-- The rows for the device addressed. -/
abbrev peerM (d : Dev nD) (i : Fin 31) : Memref sig .tc .vmem S32x512 .bf16 := tM.slice (peerR d i) (fun _ => rfl)

/-- The device's own rows, of its argument and of its result. -/
abbrev ownR (d : Dev nD) : Rect S1024x512 := Rect.unit (s := S1024x512) (k0_off2 d) S32x512.size (k0_off2_inb d)
/-- The device's rows of the result. -/
abbrev ownM (d : Dev nD) : Memref sig .tc .vmem S32x512 .bf16 :=
  oM.slice (Rect.unit (s := S1024x512) (k0_off3 d) S32x512.size (k0_off3_inb d)) (fun _ => rfl)

/-- The whole argument. -/
abbrev allR : Rect S1024x512 := Rect.unit (s := S1024x512) ![0, 0] S1024x512.size inb_S1024x512_S1024x512_0_0
/-- The whole finished block. -/
abbrev fR : Rect S32x512 := Rect.unit (s := S32x512) ![0, 0] S32x512.size inb_S32x512_S32x512_0_0
/-- The first thirty-two rows. -/
abbrev topR : Rect S1024x512 := Rect.unit (s := S1024x512) ![0, 0] S32x512.size inb_S1024x512_S32x512_0_0

/-- A slot's transfer moves whole words. -/
theorem slotM_words (i : Fin 31) : (slotM i).view.WordExact := ((Memref.isWhole_whole cc0_scratch1).wordExact_slice rfl _ (slotR_words i)).reshape _ _
/-- A first-round send moves whole words. -/
theorem peerM_words (d : Dev nD) (i : Fin 31) : (peerM d i).view.WordExact := (Memref.isWhole_whole cc0_scratch0).wordExact_slice rfl _ (k0_off1_wordsbf16 d i)
/-- A second-round send writes whole words. -/
theorem ownM_words (d : Dev nD) : (ownM d).view.WordExact := (Memref.isWhole_whole cc0_stg1_0).wordExact_slice rfl _ (k0_off3_wordsbf16 d)
/-- A second-round send reads whole words. -/
theorem fM_words : (fM).view.WordExact := (Memref.isWhole_whole cc0_scratch2).wordExact

/-! ## The arithmetic between the loops -/

/-- The device's own rows, as the accumulator starts. -/
def accInit (v : Vec F S32x512 .bf16) : FVec F S32x512 .f32 := extf .f32 (k0_pay2 v) bitsLt_bf16_f32

/-- The accumulator with one more device's rows added. -/
def accStep (a : FVec F S32x512 .f32) (v : Vec F S1x32x512 .bf16) : FVec F S32x512 .f32 :=
  addf a (extf .f32 (shapeCast S32x512 v shapeCasts_S1x32x512_S32x512) bitsLt_bf16_f32)

/-- The block of results the device computes from the finished sum. -/
def accDone (a : FVec F S32x512 .f32) : FVec F S32x512 .bf16 :=
  have r : FVec F S32x512 .f32 := maximumf a (broadcast S32x512 (Scalar.ofBits .f32 0x00000000#32))
  truncf .bf16 (addf (mulf (mulf (tanh a) a) a) (mulf (mulf r r) r)) bitsLt_bf16_f32

/-! ## The loops -/

/-- Every other device is told that this one has arrived. -/
def signals (d : Dev nD) (k : KProg F) : List (Fin 31) → KProg F
  | [] => k
  | i :: l => .op (.semSignal (peer d i, .tc) barS (1#32 : BitVec 32).toInt) fun _ => signals d k l

/-- Every other device is sent the rows that belong to it. -/
def sendsA (d : Dev nD) (k : KProg F) : List (Fin 31) → KProg F
  | [] => k
  | i :: l => .op (.enqueueDma (peerM d i) (.remote (Dev.tc (peer d i)) (slotM i) (.dma (sendA i))) (.dma (recvA i))
      (peerM_words d i) (slotM_words i) ⟨⟨rfl, Or.inl rfl⟩, trivial⟩) fun _ => sendsA d k l

/-- Each other device's rows are awaited and added. -/
def gathers (k : FVec F S32x512 .f32 → KProg F) : List (Fin 31) → FVec F S32x512 .f32 → KProg F
  | [], a => k a
  | i :: l, a => .op (.waitDma2 (recvA i) (tM.slice topR (fun _ => rfl)) (slotM i)
      ((Memref.isWhole_whole cc0_scratch0).wordExact_slice rfl _ wordsbf16_S1024x512_S32x512_0_0) (slotM_words i)) fun _ =>
      .op (.load rM (slotR i).toLoadRect (View.loadsAt_vmem h_S1x32x512)) fun v => gathers k l (accStep a v)

/-- The finished block is sent to every other device. -/
def sendsB (d : Dev nD) (k : KProg F) : List (Fin 31) → KProg F
  | [] => k
  | i :: l => .op (.enqueueDma fM (.remote (Dev.tc (peer d i)) (ownM d) (.dma (sendB i))) (.dma (recvB i))
      fM_words (ownM_words d) ⟨⟨rfl, Or.inl rfl⟩, trivial⟩) fun _ => sendsB d k l

/-- Each other device's finished block is awaited. -/
def waitsB (k : KProg F) : List (Fin 31) → KProg F
  | [] => k
  | i :: l => .op (.waitDma2 (recvB i) fM (oM.slice topR (fun _ => rfl)) fM_words
      ((Memref.isWhole_whole cc0_stg1_0).wordExact_slice rfl _ wordsbf16_S1024x512_S32x512_0_0)) fun _ => waitsB k l

/-- The first round's sends are awaited. -/
def drainA (d : Dev nD) (k : KProg F) : List (Fin 31) → KProg F
  | [] => k
  | i :: l => .op (.waitDma2 (sendA i) (slotM i) (peerM d i) (slotM_words i) (peerM_words d i)) fun _ => drainA d k l

/-- The second round's sends are awaited. -/
def drainB (d : Dev nD) (k : KProg F) : List (Fin 31) → KProg F
  | [] => k
  | i :: l => .op (.waitDma2 (sendB i) (ownM d) fM (ownM_words d) fM_words) fun _ => drainB d k l

/-- The thirty-one iterations. -/
def iters : List (Fin 31) :=
  [0, 1, 2, 3, 4, 5, 6, 7, 8, 9, 10, 11, 12, 13, 14, 15, 16, 17, 18, 19, 20, 21, 22, 23, 24, 25, 26, 27, 28, 29, 30]

/-- What follows the sum: the block is computed, kept, sent round, and everything outstanding is awaited. -/
def tailProg (d : Dev nD) (a : FVec F S32x512 .f32) : KProg F :=
  .op (.load fM fR.toLoadRect (View.loadsAt_vmem h_S32x512)) fun _ =>
  .op (.store fM fR (shapeCast S32x512 (accDone a) shapeCasts_S32x512_S32x512) Finset.univ
    (View.stores_vmem h_S32x512 ((Memref.isWhole_whole cc0_scratch2).storeExact_slice rfl _ packedbf16_S32x512_S32x512_0_0) (fun _ => rfl)) (.inl rfl)) fun _ =>
  sendsB d
    (.op (.load oM (ownR d).toLoadRect (View.loadsAt_vmem h_S32x512)) fun _ =>
    .op (.store oM (ownR d) (accDone a) Finset.univ
      (View.stores_vmem h_S32x512 ((Memref.isWhole_whole cc0_stg1_0).storeExact_slice rfl _ (k0_off2_packedbf16 d)) (fun _ => rfl)) (.inl rfl)) fun _ =>
    waitsB (drainA d (drainB d (.ret ⟨⟩) iters) iters) iters) iters

/-- What follows the barrier. -/
def midProg (d : Dev nD) : KProg F :=
  .op (.load xM allR.toLoadRect (View.loadsAt_vmem h_S1024x512)) fun v =>
  .op (.load tM allR.toLoadRect (View.loadsAt_vmem h_S1024x512)) fun _ =>
  .op (.store tM allR (k0_pay1 v) Finset.univ
    (View.stores_vmem h_S1024x512 ((Memref.isWhole_whole cc0_scratch0).storeExact_slice rfl _ packedbf16_S1024x512_S1024x512_0_0) (fun _ => rfl)) (.inl rfl)) fun _ =>
  sendsA d
    (.op (.load xM (ownR d).toLoadRect (View.loadsAt_vmem h_S32x512)) fun v => gathers (tailProg d) iters (accInit v)) iters

/-- The whole body as loops. -/
def loopBody : KProg F :=
  .op .deviceId fun d => signals d (.op (.semWait barS (31#32 : BitVec 32).toInt) fun _ => midProg d) iters

set_option maxRecDepth 100000 in
set_option maxHeartbeats 4000000 in
/-- The printed body is the loops. -/
theorem body_eq_loops :
    cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 = loopBody := rfl

end Cert.AllReduce

end
-- ==== Proof.Blocks.lean ====
/-
Which elements the kernel's windows hold. The sent copy and the result are 1024 rows, thirty-two to a device: the rows of
device `b` are `32 b … 32 b + 31`. The receive buffer is thirty-two slots of a device's rows each. Here: the membership
tests of those windows, that different ones share no element, and what reading and loading through them returns.
-/
module

public import proofs.«01_k».proof.Proof.Loops
public import Idealize.ShloMosaic.Lib.Memref
public import Idealize.ShloMosaic.Lib.Pipeline.Value

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-! ## Going round the devices -/

/-- Iteration `i` seen from the other side: its number there. -/
theorem peer_peer_rev (d : Dev nD) (i : Fin 31) : peer (peer d i) i.rev = d := by
  apply Fin.ext
  have h : d.val < 32 := d.isLt
  have hi := i.isLt
  rw [peer_val, peer_val, Fin.val_rev]
  omega

/-- The device addressed in iteration `i` receives, in that iteration, from the device itself. -/
theorem peer_rev_peer (d : Dev nD) (i : Fin 31) : peer (peer d i.rev) i = d := by
  have := peer_peer_rev d i.rev
  rwa [Fin.rev_rev] at this

/-- No device addresses itself. -/
theorem peer_ne (d : Dev nD) (i : Fin 31) : peer d i ≠ d := by
  intro h
  have h' := congrArg Fin.val h
  have hd : d.val < 32 := d.isLt
  have hi := i.isLt
  rw [peer_val] at h'
  omega

/-- A device addresses no other twice. -/
theorem peer_inj (d : Dev nD) : Function.Injective (peer d) := by
  intro i j h
  have h' := congrArg Fin.val h
  have hd : d.val < 32 := d.isLt
  have hi := i.isLt
  have hj := j.isLt
  rw [peer_val, peer_val] at h'
  apply Fin.ext
  omega

/-- Every device but `d` is reached in some iteration. -/
theorem exists_peer (d b : Dev nD) (h : b ≠ d) : ∃ i, peer d i = b := by
  have hd : d.val < 32 := d.isLt
  have hb : b.val < 32 := b.isLt
  have hne : b.val ≠ d.val := fun e => h (Fin.ext e)
  refine ⟨⟨(b.val + 31 - d.val) % 32, by omega⟩, Fin.ext ?_⟩
  rw [peer_val]
  show (d.val + ((b.val + 31 - d.val) % 32 + 1)) % 32 = b.val
  omega

/-! ## Membership -/

omit [FloatOps F] in
/-- A rectangle of thirty-two rows starting at row `32 b` holds the indices whose row, divided by thirty-two, is `b`. -/
theorem mem_rows (o : Fin 2 → ℕ) (inb) (b : ℕ) (ho : o = ![32 * b, 0]) (x : S1024x512.Idx) :
    x ∈ (Rect.unit (s := S1024x512) o S32x512.size inb).set ↔ (x 0).val / 32 = b := by
  subst ho
  rw [Rect.mem_set_unit]
  have hx : (x 1).val < 512 := (x 1).isLt
  constructor
  · intro h
    have h0 := h 0
    change 32 * b ≤ (x 0).val ∧ (x 0).val < 32 * b + 32 at h0
    omega
  · intro h a
    fin_cases a
    · change 32 * b ≤ (x 0).val ∧ (x 0).val < 32 * b + 32
      omega
    · change 0 ≤ (x 1).val ∧ (x 1).val < 0 + 512
      omega

/-- The rows sent in iteration `i` start at thirty-two times the number of the device addressed. -/
theorem off_peer (d : Dev nD) (i : Fin 31) : k0_off1 d (BitVec.ofNat 32 (1 + i.val)) = ![32 * (peer d i).val, 0] := by
  rw [k0_off1_eq, peer_val, Nat.add_assoc]

/-- The rows sent in iteration `i` are the addressed device's. -/
theorem mem_peer (d : Dev nD) (i : Fin 31) (x : S1024x512.Idx) : x ∈ (peerM d i).view.set ↔ (x 0).val / 32 = (peer d i).val := by
  rw [show (peerM d i).view.set = (peerR d i).set from View.set_slice_whole _ _]
  exact mem_rows _ _ _ (off_peer d i) x

/-- Which indices of the result are device `b`'s rows. -/
theorem mem_own (b : Dev nD) (x : S1024x512.Idx) : x ∈ (ownM b).view.set ↔ (x 0).val / 32 = b.val := by
  rw [show (ownM b).view.set = (Rect.unit (s := S1024x512) (k0_off3 b) S32x512.size (k0_off3_inb b)).set from View.set_slice_whole _ _]
  exact mem_rows _ _ _ (k0_off3_eq b) x

/-- Which indices the rectangle of device `b`'s rows holds. -/
theorem mem_ownR (b : Dev nD) (x : S1024x512.Idx) : x ∈ (ownR b).set ↔ (x 0).val / 32 = b.val :=
  mem_rows _ _ _ (k0_off2_eq b) x

/-- Which indices of the receive buffer are slot `i`. -/
theorem mem_slotR (i : Fin 31) (x : S32x32x512.Idx) : x ∈ (slotR i).set ↔ (x 0).val = 31 - i.val := by
  rw [Rect.mem_set_unit]
  have h1 : (x 1).val < 32 := (x 1).isLt
  have h2 : (x 2).val < 512 := (x 2).isLt
  constructor
  · intro h
    have h0 := h 0
    change 31 - i.val ≤ (x 0).val ∧ (x 0).val < 31 - i.val + 1 at h0
    omega
  · intro h a
    fin_cases a
    · change 31 - i.val ≤ (x 0).val ∧ (x 0).val < 31 - i.val + 1
      omega
    · change 0 ≤ (x 1).val ∧ (x 1).val < 0 + 32
      omega
    · change 0 ≤ (x 2).val ∧ (x 2).val < 0 + 512
      omega

/-- A slot written as a block of rows covers its rectangle. -/
theorem slot_set (i : Fin 31) : (slotM i).view.set = (slotR i).set := by
  show ((View.whole cc0_scratch1).slice (slotR i) |>.reshape _ _).set = _
  rw [View.set_reshape]
  exact View.set_slice_whole _ _

/-- Which indices a slot written as a block of rows covers. -/
theorem mem_slot (i : Fin 31) (x : S32x32x512.Idx) : x ∈ (slotM i).view.set ↔ (x 0).val = 31 - i.val := by
  rw [slot_set]; exact mem_slotR i x

/-! ## Different windows share no element -/

/-- The rows sent to different devices are disjoint. -/
theorem peer_disjoint (d : Dev nD) : ∀ i ∈ (Finset.univ : Finset (Fin 31)), ∀ j ∈ (Finset.univ : Finset (Fin 31)), i ≠ j →
    Disjoint (peerM d i).view.set (peerM d j).view.set := by
  intro i _ j _ hij
  rw [Finset.disjoint_left]
  intro x hi hj
  rw [mem_peer] at hi hj
  exact hij (peer_inj d (Fin.ext (hi.symm.trans hj)))

/-- The rows of the result that different devices fill are disjoint. -/
theorem own_disjoint (d : Dev nD) : ∀ i ∈ (Finset.univ : Finset (Fin 31)), ∀ j ∈ (Finset.univ : Finset (Fin 31)), i ≠ j →
    Disjoint (ownM (peer d i)).view.set (ownM (peer d j)).view.set := by
  intro i _ j _ hij
  rw [Finset.disjoint_left]
  intro x hi hj
  rw [mem_own] at hi hj
  exact hij (peer_inj d (Fin.ext (hi.symm.trans hj)))

/-- Different slots are disjoint. -/
theorem slot_disjoint : ∀ i ∈ (Finset.univ : Finset (Fin 31)), ∀ j ∈ (Finset.univ : Finset (Fin 31)), i ≠ j →
    Disjoint (slotM i).view.set (slotM j).view.set := by
  intro i _ j _ hij
  rw [Finset.disjoint_left]
  intro x hi hj
  rw [mem_slot] at hi hj
  apply hij
  apply Fin.ext
  have h1 := i.isLt
  have h2 := j.isLt
  omega

/-! ## What the windows read -/

/-- The rows of device `b` in a 1024-row array. -/
def rowsOf (X : S1024x512.Idx → Elt F .bf16) (b : Dev nD) : S32x512.Idx → Elt F .bf16 := fun j => X ((ownR b).emb j)

/-- Element `j` of device `b`'s rows, as an index of the whole array. -/
theorem emb_ownR (b : Dev nD) (j : S32x512.Idx) :
    ((ownR b).emb j 0).val = 32 * b.val + (j 0).val ∧ ((ownR b).emb j 1).val = (j 1).val := by
  have h0 := congrFun (k0_off2_eq b) 0
  have h1 := congrFun (k0_off2_eq b) 1
  constructor
  · show k0_off2 b 0 + 1 * (j 0).val = _
    rw [h0, Nat.one_mul]; rfl
  · show k0_off2 b 1 + 1 * (j 1).val = _
    rw [h1, Nat.one_mul]; exact Nat.zero_add _

omit [FloatOps F] in
/-- Rectangles of thirty-two rows at equal offsets place a row alike. -/
theorem emb_rows {o o' : Fin 2 → ℕ} (inb inb') (h : o = o') (j : S32x512.Idx) :
    (Rect.unit (s := S1024x512) o S32x512.size inb).emb j = (Rect.unit (s := S1024x512) o' S32x512.size inb').emb j := by
  subst h; rfl

/-- What iteration `i` sends are the addressed device's rows. -/
theorem read_peer (d : Dev nD) (i : Fin 31) (X : S1024x512.Idx → Elt F .bf16) :
    (peerM d i).view.read (Elt F) X = rowsOf X (peer d i) := by
  funext j
  show X ((peerR d i).emb j) = X ((ownR (peer d i)).emb j)
  exact congrArg X (emb_rows _ _ ((off_peer d i).trans (k0_off2_eq _).symm) j)

/-- Device `b`'s rows read of an array are those rows. -/
theorem read_own (b : Dev nD) (X : S1024x512.Idx → Elt F .bf16) : (ownM b).view.read (Elt F) X = rowsOf X b := by
  funext j
  show X ((Rect.unit (s := S1024x512) (k0_off3 b) S32x512.size (k0_off3_inb b)).emb j) = X ((ownR b).emb j)
  exact congrArg X (emb_rows _ _ ((k0_off3_eq b).trans (k0_off2_eq _).symm) j)

/-- A load of a device's own rows gives those rows. -/
theorem readAt_ownR (b : Dev nD) (X : S1024x512.Idx → Elt F .bf16) :
    (xM).view.readAt (Elt F) (ownR b).toLoadRect X = rowsOf X b := rfl

/-- The slot loaded, without its leading axis, is what was received into it. -/
theorem readAt_slot (i : Fin 31) (f : S32x32x512.Idx → Elt F .bf16) :
    shapeCast S32x512 ((rM).view.readAt (Elt F) (slotR i).toLoadRect f) shapeCasts_S1x32x512_S32x512 = (slotM i).view.read (Elt F) f := rfl

/-- A whole load of the argument returns it. -/
theorem readAt_allR (X : S1024x512.Idx → Elt F .bf16) : (xM).view.readAt (Elt F) allR.toLoadRect X = X :=
  Memref.readAt_unit_zero (Elt F) cc0_stg0_0 (funext fun a => by fin_cases a <;> rfl) _ X

/-- A whole store of the sent copy leaves the stored value. -/
theorem write_allR (X w : S1024x512.Idx → Elt F .bf16) : (tM.access allR).write (Elt F) X w Finset.univ = w :=
  Memref.write_access_unit_zero_univ (Elt F) cc0_scratch0 (funext fun a => by fin_cases a <;> rfl) _ X w

/-- A whole store of the finished block leaves the stored value. -/
theorem write_fR (X w : S32x512.Idx → Elt F .bf16) : (fM.access fR).write (Elt F) X w Finset.univ = w :=
  Memref.write_access_unit_zero_univ (Elt F) cc0_scratch2 (funext fun a => by fin_cases a <;> rfl) _ X w

/-- A store of the device's own rows leaves the stored rows there. -/
theorem write_ownR (d : Dev nD) (X : S1024x512.Idx → Elt F .bf16) (w : S32x512.Idx → Elt F .bf16) (j : S32x512.Idx) :
    (oM.access (ownR d)).write (Elt F) X w Finset.univ ((ownR d).emb j) = w j :=
  View.write_emb_of_mem (v := (oM.access (ownR d))) X w (Finset.mem_univ j)

/-- Every element is some device's. -/
theorem rows_cover (x : S1024x512.Idx) : ∃ (b : Dev nD) (j : S32x512.Idx), (ownR b).emb j = x := by
  have hx : (x 0).val < 1024 := (x 0).isLt
  have hb : (x 0).val / 32 < nD := by show _ < 32; omega
  have hm : x ∈ (ownR ⟨(x 0).val / 32, hb⟩).set := (mem_ownR _ x).mpr rfl
  rw [← Rect.map_emb_univ] at hm
  obtain ⟨j, -, hj⟩ := Finset.mem_map.mp hm
  exact ⟨⟨(x 0).val / 32, hb⟩, j, hj⟩

end Cert.AllReduce

end
-- ==== Proof.Protocol.lean ====
/-
The exchange as a protocol. Every device has a barrier cell and, for each of the thirty-one iterations, four transfer
cells: two it waits on as a sender and two as a receiver. What passes through them:

  * a barrier signal from device `q` hands over `q`'s receive slot and `q`'s copy of the result rows that the signalled
    device will fill in;
  * a finished send hands the sent rows back;
  * a finished receive hands over the filled slot, or the filled rows of the result.

Each cell runs through one round. Barrier cells rank below first-round receive cells, and those below second-round
receive cells; no device waits on a cell while it owes one of the same rank or lower.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own and the exchange's. -/
abbrev UU : Type := UR sig nD τ × URounds (GSem nD τ sig) (Fin 31)

local notation "𝕄" => MT nD τ sig Unit (Elt F) ℕ UU ℕ

/-- Where the pipeline's ghost state lies. -/
abbrev EP : Emb (UR sig nD τ) (MT nD τ sig Unit (Elt F) ℕ UU ℕ) := embL
/-- Where this protocol's ghost state lies. -/
abbrev ER : Emb (URounds (GSem nD τ sig) (Fin 31)) (MT nD τ sig Unit (Elt F) ℕ UU ℕ) := embR

/-! ## The cells -/

/-- The four kinds of transfer cell: sender's and receiver's, first round and second round. -/
abbrev kSA : Fin 4 := 0
/-- The second round's sends. -/
abbrev kSB : Fin 4 := 1
/-- The first round's receipts. -/
abbrev kRA : Fin 4 := 2
/-- The second round's receipts. -/
abbrev kRB : Fin 4 := 3

/-- The transfer semaphore of kind `a` in iteration `i`. -/
def xsem (a : Fin 4) (i : Fin 31) : DmaSem sig :=
  match a with
  | 0 => sendA i
  | 1 => sendB i
  | 2 => recvA i
  | 3 => recvB i

/-- Entry zero of each of the four arrays, which no transfer uses. -/
def spare (a : Fin 4) : DmaSem sig :=
  match a with
  | 0 => semAt cc0_scratch3 0 (by decide)
  | 1 => semAt cc0_scratch4 0 (by decide)
  | 2 => semAt cc0_scratch5 0 (by decide)
  | 3 => semAt cc0_scratch6 0 (by decide)

/-- Names of the kernel's own semaphores: the spare ones and the transfers'. -/
abbrev KOwn : Type := Fin 4 ⊕ Fin 4 × Fin 31
/-- Those and the barrier semaphore. -/
abbrev KCell : Type := Unit ⊕ KOwn

/-- The semaphore of each of the kernel's own cells. -/
def osem : KOwn → SemLoc sig
  | .inl a => .dma (spare a)
  | .inr ai => .dma (xsem ai.1 ai.2)

/-- The semaphore of each cell. -/
def csem : KCell → SemLoc sig
  | .inl _ => .reg barS
  | .inr k => osem k

/-- The barrier cell's name. -/
abbrev barK : KCell := .inl ()
/-- A transfer cell's name. -/
abbrev xK (a : Fin 4) (i : Fin 31) : KCell := .inr (.inr (a, i))

/-- The cell `k` of device `c`. -/
abbrev cellK (c : Dev nD) (k : KCell) : GSem nD τ sig := ((c : Thread nD τ), csem k)
/-- A device's barrier cell. -/
abbrev barCell (c : Dev nD) : GSem nD τ sig := ((c : Thread nD τ), .reg barS)
/-- A device's transfer cell. -/
abbrev xCell (a : Fin 4) (c : Dev nD) (i : Fin 31) : GSem nD τ sig := ((c : Thread nD τ), .dma (xsem a i))

set_option maxRecDepth 100000 in
/-- The kernel's own semaphores are its scratch ones, different from one another and from the pipeline's. -/
theorem ownSemFacts : Pipeline.OwnSemFacts cfg0.spec osem := by decide +kernel

/-- Different cells have different semaphores. -/
theorem csem_inj : Function.Injective csem := by
  intro k k' h
  match k, k' with
  | .inl _, .inl _ => rfl
  | .inl _, .inr (.inl _) => cases h
  | .inl _, .inr (.inr _) => cases h
  | .inr (.inl _), .inl _ => cases h
  | .inr (.inr _), .inl _ => cases h
  | .inr o, .inr o' => exact congrArg Sum.inr (ownSemFacts.inj h)

/-- Which of the named semaphores this is, if any. -/
def kind (sm : SemLoc sig) : Option KCell := (Finset.univ : Finset KCell).toList.find? fun k => csem k = sm

/-- A cell's semaphore is recognised as that cell's. -/
theorem kind_csem (k : KCell) : kind (csem k) = some k := by
  unfold kind
  cases h : (Finset.univ : Finset KCell).toList.find? (fun k' => decide (csem k' = csem k)) with
  | none =>
    have := List.find?_eq_none.mp h k (Finset.mem_toList.mpr (Finset.mem_univ k))
    simp at this
  | some k' =>
    have := List.find?_some h
    rw [csem_inj (of_decide_eq_true this)]

/-- The barrier semaphore is recognised. -/
theorem kind_bar : kind (.reg barS) = some barK := kind_csem barK
/-- A transfer semaphore is recognised. -/
theorem kind_x (a : Fin 4) (i : Fin 31) : kind (.dma (xsem a i)) = some (xK a i) := kind_csem (xK a i)

/-- The bytes one transfer credits. -/
abbrev N : ℕ := (fM).view.dmaCredit
/-- A transfer pays something. -/
theorem N_pos : 0 < N := View.dmaCredit_pos _ (by decide)

/-! ## Contents -/

/-- Every device's argument. -/
abbrev Args (F : FTy → Type) : Type := Dev nD → S1024x512.Idx → Elt F .bf16

/-- The sum a device accumulates: its own rows, then the others' in the order they are awaited. -/
def total (X : Args F) (c : Dev nD) : FVec F S32x512 .f32 :=
  iters.foldl (fun a i => addf a (extf .f32 (show FVec F S32x512 .bf16 from rowsOf (X (peer c i.rev)) c) bitsLt_bf16_f32)) (accInit (rowsOf (X c) c))

/-- The block of the result a device computes. -/
def outB (X : Args F) (c : Dev nD) : S32x512.Idx → Elt F .bf16 := accDone (total X c)

/-- The thirty-two equal shares of the finished block: one for each send, one kept. -/
def sendShare (i : Fin 31) : PosShare TreeShare := ShareLeaves.leaf 5 fullShare (finSumFinEquiv (m := 1) (n := 31) (.inr i))
/-- The share of the finished block that is kept. -/
def keptShare : PosShare TreeShare := ShareLeaves.leaf 5 fullShare (finSumFinEquiv (m := 1) (n := 31) (.inl 0))

/-! ## The schedule -/

/-- What the signal from the device of iteration `i` hands `c`. -/
def barPay (c : Dev nD) (i : Fin 31) : sProp 𝕄 :=
  iprop((∃ v, owns (peer c i : Thread nD τ) (slotM i) fullShare v) ∗ (∃ v, owns (peer c i : Thread nD τ) (ownM c) fullShare v))

/-- What a finished transfer hands the device waiting for it. -/
def xPay (X : Args F) (c : Dev nD) (i : Fin 31) (a : Fin 4) : sProp 𝕄 :=
  match a with
  | 0 => (peerM c i).view.loc (c : Thread nD τ) ↦[(peerM c i).view.set]{fullShare} X c
  | 1 => (fM).view.loc (c : Thread nD τ) ↦[(fM).view.set]{sendShare i} outB X c
  | 2 => owns (c : Thread nD τ) (slotM i) fullShare (rowsOf (X (peer c i.rev)) c)
  | 3 => owns (c : Thread nD τ) (ownM (peer c i.rev)) fullShare (outB X (peer c i.rev))

/-- Whose turns a cell's first round has. -/
def dutiesK : Option KCell → Finset (Fin 31)
  | some (.inl _) => Finset.univ
  | some (.inr (.inr _)) => {0}
  | _ => ∅

/-- What one turn pays. -/
def amountK : Option KCell → ℕ
  | some (.inl _) => 1
  | _ => N

/-- What one turn hands over. -/
def payK (X : Args F) (c : Dev nD) (i : Fin 31) : Option KCell → sProp 𝕄
  | some (.inl _) => barPay c i
  | some (.inr (.inr ai)) => xPay X c ai.2 ai.1
  | _ => iprop(emp)

/-- One round: thirty-one unit signals at a barrier cell, one transfer at a transfer cell, nothing anywhere else. -/
def Rd (X : Args F) : Rounds.Schedule (GSem nD τ sig) (Fin 31) 𝕄 where
  duties g r := if r = 0 ∧ g.1.2 = .tc then dutiesK (kind g.2) else ∅
  unitless _ := False
  amount g _ _ := amountK (kind g.2)
  payload g _ i := payK X g.1.1 i (kind g.2)
  amount_pos g _ _ _ := by
    unfold amountK
    split
    · exact Nat.one_pos
    · exact N_pos

/-- What a turn hands over can be kept in an invariant. -/
instance Rd_storable (X : Args F) (g : GSem nD τ sig) (r : ℕ) (i : Fin 31) : BI.Storable (upEmb : UEmb _ 𝕄) ((Rd X).payload g r i) := by
  show BI.Storable upEmb (payK X g.1.1 i (kind g.2))
  unfold payK
  split
  · unfold barPay; infer_instance
  · unfold xPay; split <;> infer_instance
  · infer_instance

section Sched
variable (X : Args F) (c : Dev nD) (a : Fin 4) (i : Fin 31)

/-- The barrier's round has a turn for every other device. -/
theorem duties_bar : (Rd X).duties (barCell c) 0 = Finset.univ := by
  dsimp only [Rd]; rw [if_pos ⟨rfl, rfl⟩, kind_bar]; rfl
/-- A transfer cell's round has one turn. -/
theorem duties_x : (Rd X).duties (xCell a c i) 0 = {0} := by
  dsimp only [Rd]; rw [if_pos ⟨rfl, rfl⟩, kind_x]; rfl
/-- A cell that is not used has none. -/
theorem duties_spare (r : ℕ) : (Rd X).duties (cellK c (.inr (.inl a))) r = ∅ := by
  dsimp only [Rd]; rw [kind_csem]
  split <;> rfl
/-- There is one round only. -/
theorem duties_later (g : GSem nD τ sig) : ∀ r, 1 ≤ r → (Rd X).duties g r = ∅ :=
  fun r hr => if_neg fun h => by omega

/-- A signal pays one. -/
theorem amount_bar (j : Fin 31) : (Rd X).amount (barCell c) 0 j = 1 := by dsimp only [Rd]; rw [kind_bar]; rfl
/-- A transfer pays its size. -/
theorem amount_x (j : Fin 31) : (Rd X).amount (xCell a c i) 0 j = N := by dsimp only [Rd]; rw [kind_x]; rfl

/-- The barrier's round expects thirty-one. -/
theorem expect_bar : (Rd X).expect (barCell c) 0 = 31 := by
  unfold Schedule.expect Schedule.amountOf
  rw [duties_bar, Finset.sum_congr rfl fun j _ => amount_bar X c j, Finset.sum_const, Finset.card_univ, Fintype.card_fin, smul_eq_mul]
/-- A transfer's round expects the transfer's size. -/
theorem expect_x : (Rd X).expect (xCell a c i) 0 = N := by
  unfold Schedule.expect Schedule.amountOf; rw [duties_x, Finset.sum_singleton, amount_x]

/-- What a signal hands over. -/
theorem payload_bar (j : Fin 31) : (Rd X).payload (barCell c) 0 j = barPay c j := by dsimp only [Rd]; rw [kind_bar]; rfl
/-- What a transfer hands over. -/
theorem payload_x (j : Fin 31) : (Rd X).payload (xCell a c i) 0 j = xPay X c i a := by dsimp only [Rd]; rw [kind_x]; rfl

/-- What the barrier's whole round hands over. -/
theorem rest_bar : bigSep ((Rd X).duties (barCell c) 0 \ ∅) (fun j => (Rd X).payload (barCell c) 0 j) = bigSep Finset.univ fun j => barPay c j := by
  rw [Finset.sdiff_empty, duties_bar]
  exact bigSep_congr fun j _ => payload_bar X c j
/-- What a transfer's whole round hands over. -/
theorem rest_x : bigSep ((Rd X).duties (xCell a c i) 0 \ ∅) (fun j => (Rd X).payload (xCell a c i) 0 j) = xPay X c i a := by
  rw [Finset.sdiff_empty, duties_x, bigSep_singleton, payload_x]

end Sched

/-! ## What a device owes, and the ranks -/

/-- On top of `B`: for each iteration listed, `n` at the semaphore `k` of the device addressed, the first iteration on top. -/
def owX (k : Fin 31 → SemLoc sig) (n : ℕ) (d : Dev nD) (B : CellTallies nD τ sig Unit) : List (Fin 31) → CellTallies nD τ sig Unit
  | [] => B
  | i :: l => owX k n d B l + tallyAt ((peer d i : Thread nD τ), k i) () n

/-- What is owed once the first round's sends are under way. -/
abbrev owB (d : Dev nD) : CellTallies nD τ sig Unit := owX (fun i => .dma (xsem kRB i)) N d 0 iters
/-- What is owed once the signals are sent. -/
abbrev owA (d : Dev nD) : CellTallies nD τ sig Unit := owX (fun i => .dma (xsem kRA i)) N d (owB d) iters
/-- What is owed at the start. -/
abbrev O₀ (d : Dev nD) : CellTallies nD τ sig Unit := owX (fun _ => .reg barS) 1 d (owA d) iters

/-- Rights and debts are counted at the cells of the devices' main threads. -/
def L (g : GSem nD τ sig) : Finset Unit := if g.1.2 = .tc then {()} else ∅

/-- The order in which the cells are awaited. -/
def rank : Option KCell → ℕ
  | some (.inl _) => 1
  | some (.inr (.inr (2, _))) => 2
  | some (.inr (.inr (3, _))) => 3
  | _ => 0
/-- A cell's level is its rank. -/
def lv (g : GSem nD τ sig) (_ : Unit) : ℕ := rank (kind g.2)

/-- No other thread has any. -/
theorem L_of_ne (g : GSem nD τ sig) (h : g.1.2 ≠ .tc) : L g = ∅ := if_neg h
/-- The main threads' cells have. -/
theorem L_tc (c : Dev nD) (sm : SemLoc sig) : L ((c : Thread nD τ), sm) = {()} := if_pos rfl

/-- Everything owed is owed to cells of rank above `n`, of some device's core. -/
def Above (n : ℕ) (O : CellTallies nD τ sig Unit) : Prop := ∀ g u, 0 < O g u → u ∈ L g ∧ n < lv g u

/-- Owing nothing is owing nothing low. -/
theorem above_zero (n : ℕ) : Above n 0 := fun g u h => absurd h (Nat.lt_irrefl 0)

/-- Adding debts of high rank keeps the rest high. -/
theorem above_owX (n : ℕ) (k : Fin 31 → SemLoc sig) (hk : ∀ i, n < rank (kind (k i))) (q : ℕ) (d : Dev nD) (B) (hB : Above n B) :
    ∀ l, Above n (owX k q d B l)
  | [] => hB
  | i :: l => fun g u h => by
    unfold owX at h
    rw [Pi.add_apply, Finsupp.add_apply, tallyAt_apply] at h
    by_cases hg : g = ((peer d i : Thread nD τ), k i) ∧ u = ()
    · rw [hg.1]
      refine ⟨by rw [L_tc]; exact Finset.mem_singleton_self _, ?_⟩
      exact hk i
    · rw [if_neg hg] at h
      exact above_owX n k hk q d B hB l g u h

/-- The second round's debts are above everything awaited before them. -/
theorem above_owB (n : ℕ) (h : n < 3) (d : Dev nD) : Above n (owB d) := above_owX n (fun i => .dma (xsem kRB i)) (fun i => by rw [kind_x]; exact h) _ _ _ (above_zero n) _
/-- The first round's debts likewise. -/
theorem above_owA (n : ℕ) (h : n < 2) (d : Dev nD) : Above n (owA d) := above_owX n (fun i => .dma (xsem kRA i)) (fun i => by rw [kind_x]; exact h) _ _ _ (above_owB n (by omega) d) _
/-- Everything owed is above the lowest rank. -/
theorem above_O₀ (d : Dev nD) : Above 0 (O₀ d) := above_owX 0 (fun _ => .reg barS) (fun _ => by rw [kind_bar]; exact Nat.one_pos) _ _ _ (above_owA 0 (by decide) d) _

/-- A device may wait on a cell when everything it owes ranks above it. -/
theorem mayWait (c : Dev nD) (sm : SemLoc sig) (n : ℕ) (hn : rank (kind sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.AllReduce

end
-- ==== Proof.Phases.lean ====
/-
Each loop of the kernel, run: what it takes to enter it, and what it leaves. Every loop is proved once, for whatever list
of iterations is still to run, from one lemma about a single iteration.
-/
module

public import proofs.«01_k».proof.Proof.Protocol

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop measures: every loop here is written out. -/
abbrev 𝒱₀ : Variants := Variants.none

/-! ## One resource per iteration of a list -/

/-- `Φ` for each iteration listed. -/
def over (Φ : Fin 31 → sProp 𝕄) : List (Fin 31) → sProp 𝕄
  | [] => iprop(emp)
  | i :: l => iprop(Φ i ∗ over Φ l)

omit [FloatOps F] in
/-- Resources over a list without repetition are resources over its set. -/
theorem over_toFinset (Φ : Fin 31 → sProp 𝕄) : ∀ l : List (Fin 31), l.Nodup → bigSep l.toFinset Φ = over Φ l
  | [], _ => by rw [List.toFinset_nil, bigSep_empty]; rfl
  | i :: l, h => by
    have h' := List.nodup_cons.mp h
    rw [List.toFinset_cons, bigSep_insert (by rw [List.mem_toFinset]; exact h'.1), over_toFinset Φ l h'.2]; rfl

omit [FloatOps F] in
/-- Over the thirty-one iterations, that is one for each number. -/
theorem over_iters (Φ : Fin 31 → sProp 𝕄) : over Φ iters = bigSep Finset.univ Φ := by
  rw [← over_toFinset Φ iters (by decide)]
  congr 1

/-! ## What every device knows -/

/-- The invariants of all cells, and that each is at its first round or past it. -/
def records (X : Args F) (K : Dev nD × KCell → ℕ) : sProp 𝕄 :=
  iprop((bigSep Finset.univ fun ck : Dev nD × KCell => cellInv ER (Rd X) (K ck) (cellK ck.1 ck.2))
    ∗ bigSep Finset.univ fun ck : Dev nD × KCell => reached ER (cellK ck.1 ck.2) 0)

/-- The records can be kept and used again. -/
instance records_persistent (X : Args F) (K : Dev nD × KCell → ℕ) : BI.Persistent (records X K) := by unfold records; infer_instance

/-- One cell's invariant, from the records. -/
theorem inv_at (X : Args F) (K : Dev nD × KCell → ℕ) (c : Dev nD) (k : KCell) :
    records X K ⊢ cellInv ER (Rd X) (K (c, k)) (cellK c k) := by
  unfold records
  iintro ⟨#HI, -⟩
  iapply (show (bigSep Finset.univ fun ck : Dev nD × KCell => (cellInv ER (Rd X) (K ck) (cellK ck.1 ck.2) : sProp 𝕄)) ⊢ cellInv ER (Rd X) (K (c, k)) (cellK c k)
    from bigSep_elim (Finset.mem_univ (c, k)))
  iexact HI

/-- One cell's first round is open, from the records. -/
theorem reached_at (X : Args F) (K : Dev nD × KCell → ℕ) (c : Dev nD) (k : KCell) :
    records X K ⊢ reached ER (cellK c k) 0 := by
  unfold records
  iintro ⟨-, #HR⟩
  iapply (show (bigSep Finset.univ fun ck : Dev nD × KCell => (reached ER (cellK ck.1 ck.2) 0 : sProp 𝕄)) ⊢ reached ER (cellK c k) 0
    from bigSep_elim (Finset.mem_univ (c, k)))
  iexact HR

/-- The barrier cell's invariant. -/
theorem inv_bar (X : Args F) (K : Dev nD × KCell → ℕ) (c : Dev nD) : records X K ⊢ cellInv ER (Rd X) (K (c, barK)) (barCell c) := inv_at X K c barK
/-- A transfer cell's invariant. -/
theorem inv_x (X : Args F) (K : Dev nD × KCell → ℕ) (a : Fin 4) (c : Dev nD) (i : Fin 31) :
    records X K ⊢ cellInv ER (Rd X) (K (c, xK a i)) (xCell a c i) := inv_at X K c (xK a i)
/-- The barrier cell's first round is open. -/
theorem reached_bar (X : Args F) (K : Dev nD × KCell → ℕ) (c : Dev nD) : records X K ⊢ reached ER (barCell c) 0 := reached_at X K c barK
/-- A transfer cell's first round is open. -/
theorem reached_x (X : Args F) (K : Dev nD × KCell → ℕ) (a : Fin 4) (c : Dev nD) (i : Fin 31) :
    records X K ⊢ reached ER (xCell a c i) 0 := reached_at X K c (xK a i)

/-- What the device owes, whatever waits it has recorded. -/
def ow (d : Dev nD) (O : CellTallies nD τ sig Unit) : sProp 𝕄 := iprop(∃ W, owes (d : Thread nD τ) O W)

/-- A window written is owned at the value written. -/
theorem owns_written (c : Dev nD) (m : Memref sig .tc .vmem S32x512 .bf16) (f : Buf (Elt F) (m.view.loc (c : Thread nD τ))) (w : S32x512.Idx → Elt F .bf16) :
    (m.view.loc (c : Thread nD τ) ↦[m.view.set]{fullShare} (m.view.write (Elt F) f w Finset.univ) : sProp 𝕄) ⊢ owns (c : Thread nD τ) m fullShare w := by
  unfold owns
  iintro H
  iexists _
  isplitr
  · ipureintro; exact View.read_write_univ (v := m.view) f _
  · iexact H

section Steps

variable (X : Args F) (K : Dev nD × KCell → ℕ) (d : Dev nD)

/-- The postcondition a loop's continuation is run for. -/
local notation "run" p:max Q:max => wp frame (wpE (defs₀ (F := F)) 𝒱₀ (d : Thread nD τ) none) Set.univ p Q

/-! ## The barrier -/

/-- What the signal of iteration `i` uses up: its turn, the slot the addressed device will fill here, and the rows of the
    result it will fill here. -/
def sigRes (d : Dev nD) (i : Fin 31) : sProp 𝕄 :=
  iprop(dutyTok ER (barCell (peer d i)) 0 i.rev
    ∗ (∃ v, owns (d : Thread nD τ) (slotM i.rev) fullShare v) ∗ (∃ v, owns (d : Thread nD τ) (ownM (peer d i)) fullShare v))

/-- The signals: each takes its turn at the cell of the device addressed and pays one unit of what is owed. -/
theorem signals_wp (k : KProg F) (Q : PUnit → sProp 𝕄) (B : CellTallies nD τ sig Unit) (l : List (Fin 31)) :
    iprop(records X K ∗ ow d (owX (fun _ => .reg barS) 1 d B l) ∗ over (sigRes d) l)
      ⊢ iprop((ow d B -∗ run k Q) -∗ run (signals d k l) Q) := by
  induction l with
  | nil =>
    unfold signals over owX
    iintro ⟨-, HO, -⟩ Hk
    iapply Hk; iexact HO
  | cons i l ih =>
    unfold signals over owX sigRes
    iintro ⟨#Hr, HO, ⟨Ht, Hs, Ho⟩, Hl⟩ Hk
    unfold ow
    icases HO with ⟨%W, HO⟩
    iapply (Rounds.wp_signal 𝒱₀ ER (Rd X) (d : Thread nD τ) none (dst := (peer d i : Thread nD τ)) (κ := K (peer d i, barK))
      (d := i.rev) (sem := barS) (by rw [duties_bar X]; exact Finset.mem_univ _) ((amount_bar X (peer d i) i.rev).trans (by decide)) ()
      (owX (fun _ => .reg barS) 1 d B l) rfl) $$ [HO Ht Hs Ho]
    · isplitr; · iapply (inv_bar X K (peer d i)); iexact Hr
      isplitl [HO]; · iexact HO
      isplitl [Ht]; · iexact Ht
      isplitl [Hs Ho]
      · rw [payload_bar X]; unfold barPay; rw [peer_peer_rev]
        isplitl [Hs] <;> iassumption
      · iapply (reached_bar X K (peer d i)); iexact Hr
    iintro HO
    iapply ih $$ [HO Hl]
    · isplitr; · iexact Hr
      isplitl [HO]
      · unfold ow; iexists W; iexact HO
      · iexact Hl
    unfold ow
    iexact Hk

/-- The wait for thirty-one signals: from every other device, its slot and its copy of this device's result rows. -/
theorem barrier_wp (k : PUnit → KProg F) (Q : PUnit → sProp 𝕄) :
    iprop(records X K ∗ levAts L lv ∗ cred (tallyAt (barCell d) () 31) ∗ ow d (owA d) ∗ atPos ER (barCell d) 0 ∅ 0)
      ⊢ iprop(((ow d (owA d) ∗ atPos ER (barCell d) 1 ∅ 0 ∗ bigSep Finset.univ fun i => barPay d i) -∗ run (k ⟨⟩) Q)
          -∗ run (.op (.semWait barS (31#32 : BitVec 32).toInt) k) Q) := by
  unfold ow
  iintro ⟨#Hr, #Hlev, Hc, ⟨%W, HO⟩, Hat⟩ Hk
  iapply (Rounds.wp_wait_rest_token 𝒱₀ ER (Rd X) (d : Thread nD τ) none (κ := K (d, barK))
      (wpE_semWait_eq 𝒱₀ (d : Thread nD τ) none Set.univ) (Set.mem_univ _) () (O := owA d) (W := W) (R := 0) (m := 0) (T := ∅)
      (by rw [expect_bar X]; decide)) $$ [Hc HO Hat]
  · isplitr; · iapply (inv_bar X K d); iexact Hr
    isplitl [Hc]; · iexact Hc
    isplitl [HO]; · iexact HO
    isplitr
    · iapply (mayWait d (.reg barS) 1 (by rw [kind_bar]; exact Nat.le_refl 1) _ (above_owA 1 (by decide) d))
      iexact Hlev
    iexact Hat
  iintro ⟨HO, Hat, -, Hpay⟩
  ihave Hp := (Entails.of_eq (rest_bar X d)) $$ Hpay
  iapply Hk
  isplitl [HO]; · iexists _; iexact HO
  isplitl [Hat] <;> iassumption

/-! ## The sends -/

/-- One send: the source goes out to the sender's cell, the destination, rewritten, to the receiver's. -/
theorem send_step (a a' : Fin 4) (i : Fin 31) {src dst : Memref sig .tc .vmem S32x512 .bf16} {sS sR : DmaSem sig}
    (hs : sS = xsem a i) (hs' : sR = xsem a' i) (hN : dst.view.amount (.dma sR) = N)
    {hsc : dst.view.ref.isScScratch = false}
    {hsrc : src.view.WordExact} {hdst : dst.view.WordExact} {hsem : DmaTarget.Typed .vmem (.dma sR) (.remote (Dev.tc (peer d i) : Thread nD τ) dst (.dma sS) hsc)}
    {q : PosShare TreeShare} {fs : Buf (Elt F) (src.view.loc (d : Thread nD τ))} (B : CellTallies nD τ sig Unit) (v : S32x512.Idx → Elt F .bf16)
    (hpay₁ : (src.view.loc (d : Thread nD τ) ↦[src.view.set]{q} fs : sProp 𝕄) ⊢ xPay X d i a)
    (hpay₂ : (owns (peer d i : Thread nD τ) dst fullShare (src.view.read (Elt F) fs) : sProp 𝕄) ⊢ xPay X (peer d i) i a')
    (k : PUnit → KProg F) (Q : PUnit → sProp 𝕄) :
    iprop(records X K ∗ ow d (B + tallyAt (xCell a' (peer d i) i) () N)
        ∗ (src.view.loc (d : Thread nD τ) ↦[src.view.set]{q} fs) ∗ owns (peer d i : Thread nD τ) dst fullShare v
        ∗ dutyTok ER (xCell a d i) 0 0 ∗ dutyTok ER (xCell a' (peer d i) i) 0 0)
      ⊢ iprop(((ow d B ∗ cred (tallyAt (xCell a d i) () N)) -∗ run (k ⟨⟩) Q)
          -∗ run (.op (.enqueueDma src (.remote (Dev.tc (peer d i) : Thread nD τ) dst (.dma sS) hsc) (.dma sR) hsrc hdst hsem) k) Q) := by
  subst hs hs'
  unfold ow
  iintro ⟨#Hr, ⟨%W, HO⟩, Hsrc, Hdst, Ht₁, Ht₂⟩ Hk
  unfold owns
  icases Hdst with ⟨%fd, -, Hdst⟩
  iapply (Rounds.wp_send_pointsTo 𝒱₀ ER (Rd X) (d : Thread nD τ) none (κ₁ := K (d, xK a i)) (κ₂ := K (peer d i, xK a' i))
      (sS := .dma (xsem a i)) (sem := .dma (xsem a' i)) (r₁ := 0) (r₂ := 0) (d₁ := 0) (d₂ := 0) (fd := fd)
      (by rw [duties_x X]; exact Finset.mem_singleton_self _) (by rw [duties_x X]; exact Finset.mem_singleton_self _)
      () () N hN (amount_x X d a i 0) (amount_x X (peer d i) a' i 0) B rfl (W := W)
      (by rw [payload_x X]; exact hpay₁)
      (by
        rw [payload_x X]
        exact (owns_written (peer d i) dst fd (src.view.read (Elt F) fs)).trans hpay₂)) $$ [HO Hsrc Hdst Ht₁ Ht₂]
  · isplitr; · iapply (inv_x X K a d i); iexact Hr
    isplitr; · iapply (inv_x X K a' (peer d i) i); iexact Hr
    isplitl [Hsrc]; · iexact Hsrc
    isplitl [Hdst]; · iexact Hdst
    isplitl [HO]; · iexact HO
    isplitl [Ht₁]; · iexact Ht₁
    isplitr; · iapply (reached_x X K a d i); iexact Hr
    isplitl [Ht₂]; · iexact Ht₂
    iapply (reached_x X K a' (peer d i) i); iexact Hr
  iintro ⟨Hc, HO⟩
  iapply Hk
  isplitl [HO]
  · iexists W; iexact HO
  · iexact Hc

/-- The rows a first-round send delivers are what its receiver waits for. -/
theorem landsA (i : Fin 31) :
    (owns (peer d i : Thread nD τ) (slotM i) fullShare ((peerM d i).view.read (Elt F) (X d)) : sProp 𝕄) ⊢ xPay X (peer d i) i kRA := by
  show _ ⊢ owns (peer d i : Thread nD τ) (slotM i) fullShare (rowsOf (X (peer (peer d i) i.rev)) (peer d i))
  rw [peer_peer_rev, ← read_peer]

/-- The block a second-round send delivers is what its receiver waits for. -/
theorem landsB (i : Fin 31) :
    (owns (peer d i : Thread nD τ) (ownM d) fullShare ((fM).view.read (Elt F) (outB X d)) : sProp 𝕄) ⊢ xPay X (peer d i) i kRB := by
  show _ ⊢ owns (peer d i : Thread nD τ) (ownM (peer (peer d i) i.rev)) fullShare (outB X (peer (peer d i) i.rev))
  rw [peer_peer_rev]
  exact BI.Entails.refl _

/-- What the first-round send of iteration `i` uses up. -/
def resA (i : Fin 31) : sProp 𝕄 :=
  iprop(((peerM d i).view.loc (d : Thread nD τ) ↦[(peerM d i).view.set]{fullShare} X d)
    ∗ (∃ v, owns (peer d i : Thread nD τ) (slotM i) fullShare v)
    ∗ dutyTok ER (xCell kSA d i) 0 0 ∗ dutyTok ER (xCell kRA (peer d i) i) 0 0)

/-- The first round of sends, one after another. -/
theorem sendsA_wp (k : KProg F) (Q : PUnit → sProp 𝕄) (B : CellTallies nD τ sig Unit) (l : List (Fin 31)) :
    iprop(records X K ∗ ow d (owX (fun i => .dma (xsem kRA i)) N d B l) ∗ over (resA X d) l)
      ⊢ iprop(((ow d B ∗ over (fun i => cred (tallyAt (xCell kSA d i) () N)) l) -∗ run k Q) -∗ run (sendsA d k l) Q) := by
  induction l with
  | nil =>
    unfold sendsA over owX
    iintro ⟨-, HO, -⟩ Hk
    iapply Hk
    isplitl [HO]; · iexact HO
    iempintro
  | cons i l ih =>
    unfold sendsA over owX
    iintro ⟨#Hr, HO, Hi, Hl⟩ Hk
    unfold resA
    icases Hi with ⟨Hsrc, ⟨%v, Hdst⟩, Ht₁, Ht₂⟩
    iapply (send_step X K d kSA kRA i (src := peerM d i) (dst := (slotM i)) rfl rfl rfl
      (owX (fun i => .dma (xsem kRA i)) N d B l) v (BI.Entails.refl _) (landsA X d i)) $$ [HO Hsrc Hdst Ht₁ Ht₂]
    · isplitr; · iexact Hr
      isplitl [HO]; · iexact HO
      isplitl [Hsrc]; · iexact Hsrc
      isplitl [Hdst]; · iexact Hdst
      isplitl [Ht₁] <;> iassumption
    iintro ⟨HO, Hc⟩
    iapply ih $$ [HO Hl]
    · isplitr; · iexact Hr
      isplitl [HO]; · iexact HO
      unfold resA; iexact Hl
    iintro ⟨HO, Hcs⟩
    iapply Hk
    isplitl [HO]; · iexact HO
    isplitl [Hc] <;> iassumption

/-- What the second-round send of iteration `i` uses up. -/
def resB (i : Fin 31) : sProp 𝕄 :=
  iprop(((fM).view.loc (d : Thread nD τ) ↦[(fM).view.set]{sendShare i} outB X d)
    ∗ (∃ v, owns (peer d i : Thread nD τ) (ownM d) fullShare v)
    ∗ dutyTok ER (xCell kSB d i) 0 0 ∗ dutyTok ER (xCell kRB (peer d i) i) 0 0)

/-- The second round of sends, one after another. -/
theorem sendsB_wp (k : KProg F) (Q : PUnit → sProp 𝕄) (B : CellTallies nD τ sig Unit) (l : List (Fin 31)) :
    iprop(records X K ∗ ow d (owX (fun i => .dma (xsem kRB i)) N d B l) ∗ over (resB X d) l)
      ⊢ iprop(((ow d B ∗ over (fun i => cred (tallyAt (xCell kSB d i) () N)) l) -∗ run k Q) -∗ run (sendsB d k l) Q) := by
  induction l with
  | nil =>
    unfold sendsB over owX
    iintro ⟨-, HO, -⟩ Hk
    iapply Hk
    isplitl [HO]; · iexact HO
    iempintro
  | cons i l ih =>
    unfold sendsB over owX
    iintro ⟨#Hr, HO, Hi, Hl⟩ Hk
    unfold resB
    icases Hi with ⟨Hsrc, ⟨%v, Hdst⟩, Ht₁, Ht₂⟩
    iapply (send_step X K d kSB kRB i (src := fM) (dst := (ownM d)) rfl rfl rfl
      (owX (fun i => .dma (xsem kRB i)) N d B l) v (BI.Entails.refl _) (landsB X d i)) $$ [HO Hsrc Hdst Ht₁ Ht₂]
    · isplitr; · iexact Hr
      isplitl [HO]; · iexact HO
      isplitl [Hsrc]; · iexact Hsrc
      isplitl [Hdst]; · iexact Hdst
      isplitl [Ht₁] <;> iassumption
    iintro ⟨HO, Hc⟩
    iapply ih $$ [HO Hl]
    · isplitr; · iexact Hr
      isplitl [HO]; · iexact HO
      unfold resB; iexact Hl
    iintro ⟨HO, Hcs⟩
    iapply Hk
    isplitl [HO]; · iexact HO
    isplitl [Hc] <;> iassumption

/-! ## The waits -/

/-- Every wait is for one transfer's bytes. -/
theorem credit_slot (i : Fin 31) : (slotM i).view.dmaCredit = N := rfl
/-- What a wait for a first-round send takes off. -/
theorem credit_peer (i : Fin 31) : (peerM d i).view.dmaCredit = N := rfl
/-- What a wait for a second-round receipt takes off. -/
theorem credit_top : (oM.slice topR (fun _ => rfl)).view.dmaCredit = N := rfl

/-- Before a transfer cell is waited on: the right to its one transfer, and its first round open. -/
def todo (a : Fin 4) (i : Fin 31) : sProp 𝕄 := iprop(cred (tallyAt (xCell a d i) () N) ∗ atPos ER (xCell a d i) 0 ∅ 0)
/-- After: its round over, and what the transfer handed over. -/
def got (a : Fin 4) (i : Fin 31) : sProp 𝕄 := iprop(atPos ER (xCell a d i) 1 ∅ 0 ∗ xPay X d i a)

/-- One wait on a transfer cell, the device owing only what ranks above the cell. -/
theorem wait_step (a : Fin 4) (i : Fin 31) (O : CellTallies nD τ sig Unit) (n : ℕ) (hn : rank (some (xK a i)) ≤ n) (hO : Above n O)
    {s s' : Shape} {e e' : EltTy} {sp sp' : Space} {src : Memref sig .tc sp' s' e'} {κ' : Kind} {dst : Memref sig κ' sp s e} {sem : DmaSem sig}
    {hsrc : src.view.WordExact} {hdst : dst.view.WordExact} (hs : sem = xsem a i) (hN : dst.view.dmaCredit = N) (k : PUnit → KProg F) (Q : PUnit → sProp 𝕄) :
    iprop(records X K ∗ levAts L lv ∗ ow d O ∗ todo d a i)
      ⊢ iprop(((ow d O ∗ got X d a i) -∗ run (k ⟨⟩) Q) -∗ run (.op (.waitDma2 sem src dst hsrc hdst) k) Q) := by
  subst hs
  unfold ow todo got
  iintro ⟨#Hr, #Hlev, ⟨%W, HO⟩, Hc, Hat⟩ Hk
  iapply (Rounds.wp_wait_rest_token 𝒱₀ ER (Rd X) (d : Thread nD τ) none (κ := K (d, xK a i)) (sm := .dma (xsem a i))
      (wpE_waitDma2_eq 𝒱₀ (d : Thread nD τ) none Set.univ) (Set.mem_univ _) () (O := O) (W := W) (R := 0) (m := 0) (T := ∅)
      (by rw [expect_x X, Nat.zero_add]; exact hN)) $$ [Hc HO Hat]
  · isplitr; · iapply (inv_x X K a d i); iexact Hr
    isplitl [Hc]; · rw [hN]; iexact Hc
    isplitl [HO]; · iexact HO
    isplitr
    · iapply (mayWait d (.dma (xsem a i)) n (by rw [kind_x]; exact hn) O hO)
      iexact Hlev
    iexact Hat
  iintro ⟨HO, Hat, -, Hpay⟩
  ihave Hp := (Entails.of_eq (rest_x X d a i)) $$ Hpay
  iapply Hk
  isplitl [HO]; · iexists _; iexact HO
  isplitl [Hat] <;> iassumption

/-- The sum extended by the rows received in the iterations listed. -/
def accRows (a : FVec F S32x512 .f32) (i : Fin 31) : FVec F S32x512 .f32 :=
  addf a (extf .f32 (show FVec F S32x512 .bf16 from rowsOf (X (peer d i.rev)) d) bitsLt_bf16_f32)

/-- The first round's receipts: each is awaited, its slot read and added. -/
theorem gathers_wp (k : FVec F S32x512 .f32 → KProg F) (Q : PUnit → sProp 𝕄) (l : List (Fin 31)) (a : FVec F S32x512 .f32) :
    iprop(records X K ∗ levAts L lv ∗ ow d (owB d) ∗ over (todo d kRA) l)
      ⊢ iprop(((ow d (owB d) ∗ over (got X d kRA) l) -∗ run (k (l.foldl (accRows X d) a)) Q) -∗ run (gathers k l a) Q) := by
  induction l generalizing a with
  | nil =>
    unfold gathers over
    iintro ⟨-, -, HO, -⟩ Hk
    iapply Hk
    isplitl [HO]; · iexact HO
    iempintro
  | cons i l ih =>
    unfold gathers over
    iintro ⟨#Hr, #Hlev, HO, Hi, Hl⟩ Hk
    iapply (wait_step X K d kRA i (owB d) 2 (Nat.le_refl 2) (above_owB 2 (by decide) d) (sem := recvA i) (src := tM.slice topR (fun _ => rfl)) (dst := slotM i) rfl (credit_slot i)) $$ [HO Hi]
    · isplitr; · iexact Hr
      isplitr; · iexact Hlev
      isplitl [HO] <;> iassumption
    iintro ⟨HO, Hg⟩
    unfold got
    icases Hg with ⟨Hat, Hp⟩
    ihave Hp := (show (xPay X d i kRA : sProp 𝕄) ⊢ owns (d : Thread nD τ) (slotM i) fullShare (rowsOf (X (peer d i.rev)) d) from BI.Entails.refl _) $$ Hp
    unfold owns
    icases Hp with ⟨%f, %hf, Hp⟩
    iapply (wp_load 𝒱₀ (d : Thread nD τ) none Set.univ (m := rM) (S := (slotM i).view.set)
      (by rw [slot_set]; exact (View.set_slice (View.whole cc0_scratch1) (slotR i)).symm.le.trans (View.set_slice_whole _ _).le)) $$ Hp
    iintro Hp
    rw [show accStep a ((rM).view.readAt (Elt F) (slotR i).toLoadRect f) = accRows X d a i from by
      unfold accStep accRows
      rw [readAt_slot, hf]]
    iapply (ih (accRows X d a i)) $$ [HO Hl]
    · isplitr; · iexact Hr
      isplitr; · iexact Hlev
      isplitl [HO] <;> iassumption
    iintro ⟨HO, Hgs⟩
    iapply Hk
    isplitl [HO]; · iexact HO
    isplitl [Hat Hp]
    · isplitl [Hat]; · iexact Hat
      iapply (show (owns (d : Thread nD τ) (slotM i) fullShare (rowsOf (X (peer d i.rev)) d) : sProp 𝕄) ⊢ xPay X d i kRA from BI.Entails.refl _)
      unfold owns
      iexists f
      isplitr; · ipureintro; exact hf
      iexact Hp
    · unfold got; iexact Hgs

/-- The second round's receipts, awaited one after another. -/
theorem waitsB_wp (k : KProg F) (Q : PUnit → sProp 𝕄) (l : List (Fin 31)) :
    iprop(records X K ∗ levAts L lv ∗ ow d 0 ∗ over (todo d kRB) l)
      ⊢ iprop(((ow d 0 ∗ over (got X d kRB) l) -∗ run k Q) -∗ run (waitsB k l) Q) := by
  induction l with
  | nil =>
    unfold waitsB over
    iintro ⟨-, -, HO, -⟩ Hk
    iapply Hk
    isplitl [HO]; · iexact HO
    iempintro
  | cons i l ih =>
    unfold waitsB over
    iintro ⟨#Hr, #Hlev, HO, Hi, Hl⟩ Hk
    iapply (wait_step X K d kRB i 0 3 (Nat.le_refl 3) (above_zero 3) (sem := recvB i) (src := fM) (dst := oM.slice topR (fun _ => rfl)) rfl credit_top) $$ [HO Hi]
    · isplitr; · iexact Hr
      isplitr; · iexact Hlev
      isplitl [HO] <;> iassumption
    iintro ⟨HO, Hg⟩
    iapply ih $$ [HO Hl]
    · isplitr; · iexact Hr
      isplitr; · iexact Hlev
      isplitl [HO] <;> iassumption
    iintro ⟨HO, Hgs⟩
    iapply Hk
    isplitl [HO]; · iexact HO
    isplitl [Hg] <;> iassumption

/-- The first round's sends, awaited one after another. -/
theorem drainA_wp (k : KProg F) (Q : PUnit → sProp 𝕄) (l : List (Fin 31)) :
    iprop(records X K ∗ levAts L lv ∗ ow d 0 ∗ over (todo d kSA) l)
      ⊢ iprop(((ow d 0 ∗ over (got X d kSA) l) -∗ run k Q) -∗ run (drainA d k l) Q) := by
  induction l with
  | nil =>
    unfold drainA over
    iintro ⟨-, -, HO, -⟩ Hk
    iapply Hk
    isplitl [HO]; · iexact HO
    iempintro
  | cons i l ih =>
    unfold drainA over
    iintro ⟨#Hr, #Hlev, HO, Hi, Hl⟩ Hk
    iapply (wait_step X K d kSA i 0 0 (Nat.le_refl 0) (above_zero 0) (sem := sendA i) (src := slotM i) (dst := peerM d i) rfl (credit_peer d i)) $$ [HO Hi]
    · isplitr; · iexact Hr
      isplitr; · iexact Hlev
      isplitl [HO] <;> iassumption
    iintro ⟨HO, Hg⟩
    iapply ih $$ [HO Hl]
    · isplitr; · iexact Hr
      isplitr; · iexact Hlev
      isplitl [HO] <;> iassumption
    iintro ⟨HO, Hgs⟩
    iapply Hk
    isplitl [HO]; · iexact HO
    isplitl [Hg] <;> iassumption

/-- The second round's sends, awaited one after another. -/
theorem drainB_wp (k : KProg F) (Q : PUnit → sProp 𝕄) (l : List (Fin 31)) :
    iprop(records X K ∗ levAts L lv ∗ ow d 0 ∗ over (todo d kSB) l)
      ⊢ iprop(((ow d 0 ∗ over (got X d kSB) l) -∗ run k Q) -∗ run (drainB d k l) Q) := by
  induction l with
  | nil =>
    unfold drainB over
    iintro ⟨-, -, HO, -⟩ Hk
    iapply Hk
    isplitl [HO]; · iexact HO
    iempintro
  | cons i l ih =>
    unfold drainB over
    iintro ⟨#Hr, #Hlev, HO, Hi, Hl⟩ Hk
    iapply (wait_step X K d kSB i 0 0 (Nat.le_refl 0) (above_zero 0) (sem := sendB i) (src := ownM d) (dst := fM) rfl rfl) $$ [HO Hi]
    · isplitr; · iexact Hr
      isplitr; · iexact Hlev
      isplitl [HO] <;> iassumption
    iintro ⟨HO, Hg⟩
    iapply ih $$ [HO Hl]
    · isplitr; · iexact Hr
      isplitr; · iexact Hlev
      isplitl [HO] <;> iassumption
    iintro ⟨HO, Hgs⟩
    iapply Hk
    isplitl [HO]; · iexact HO
    isplitl [Hg] <;> iassumption

end Steps

end Cert.AllReduce

end
-- ==== Proof.Pieces.lean ====
/-
Taking the buffers apart and putting them together again: the sent copy into the rows of the other devices, the receive
buffer into its slots, the result into the rows the other devices will fill, and the finished block into shares for the
sends that run at the same time.
-/
module

public import proofs.«01_k».proof.Proof.Phases

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer cut into thirty-one pieces and a rest -/

section Cut
variable {ℓ : Loc nD τ sig} (S : Fin 31 → Finset (Idx ℓ))
  (hS : ∀ i ∈ (Finset.univ : Finset (Fin 31)), ∀ j ∈ (Finset.univ : Finset (Fin 31)), i ≠ j → Disjoint (S i) (S j))

/-- What lies in no piece. -/
def restOf : Finset (Idx ℓ) := Finset.univ \ Finset.univ.biUnion S

omit [FloatOps F] in
/-- What is left of a buffer is outside every piece. -/
theorem mem_restOf (x : Idx ℓ) : x ∈ restOf S ↔ ∀ i, x ∉ S i := by
  unfold restOf
  simp

include hS in
omit [FloatOps F] in
/-- The whole is the pieces and the rest. -/
theorem cut_eq (f : Buf (Elt F) ℓ) :
    (ℓ ↦{fullShare} f : sProp 𝕄) = iprop((bigSep Finset.univ fun i => ℓ ↦[S i]{fullShare} f) ∗ ℓ ↦[restOf S]{fullShare} f) := by
  rw [← pointsTo_biUnion Finset.univ S hS]
  exact BI.Entails.antisymm (pointsTo_split_subset (Finset.subset_univ _)).1 (pointsTo_split_subset (Finset.subset_univ _)).2

include hS in
omit [FloatOps F] in
/-- Pieces and rest, whatever each holds, are a whole. -/
theorem uncut : iprop((bigSep Finset.univ fun i => iprop(∃ f : Buf (Elt F) ℓ, ℓ ↦[S i]{fullShare} f)) ∗ (∃ f : Buf (Elt F) ℓ, ℓ ↦[restOf S]{fullShare} f))
    ⊢ (∃ f : Buf (Elt F) ℓ, ℓ ↦{fullShare} f : sProp 𝕄) := by
  iintro ⟨HS, ⟨%f, Hf⟩⟩
  haveI : Nonempty (Buf (Elt F) ℓ) := ⟨f⟩
  ihave H := (BI.bigSep_exists_pi Finset.univ (fun (i : Fin 31) (g : Buf (Elt F) ℓ) => (ℓ ↦[S i]{fullShare} g : sProp 𝕄))) $$ HS
  icases H with ⟨%fs, H⟩
  ihave H := (pointsTo_biUnion_join (Ix := Unit) (Name := ℕ) (U := UU) (Lvl := ℕ) (q := fullShare) Finset.univ S fs f hS) $$ H
  icases H with ⟨%g, -, H⟩
  iexists (Finset.univ.biUnion S).piecewise g f
  iapply (pointsTo_join_subset (Ix := Unit) (Name := ℕ) (U := UU) (Lvl := ℕ) (q := fullShare) (g := g) (f := f) (Finset.subset_univ (Finset.univ.biUnion S)))
  isplitl [H]; · iexact H
  iexact Hf

end Cut

omit [FloatOps F] in
/-- One for each iteration, counted backwards. -/
theorem bigSep_rev (Φ : Fin 31 → sProp 𝕄) : bigSep Finset.univ Φ = bigSep Finset.univ fun i : Fin 31 => Φ i.rev :=
  bigSep_univ_equiv Fin.revPerm Φ

/-- A window held at some contents is owned at some value. -/
theorem owns_of_pts (c : Dev nD) (m : Memref sig .tc .vmem S32x512 .bf16) (f : Buf (Elt F) (m.view.loc (c : Thread nD τ))) :
    (m.view.loc (c : Thread nD τ) ↦[m.view.set]{fullShare} f : sProp 𝕄) ⊢ iprop(∃ v, owns (c : Thread nD τ) m fullShare v) := by
  unfold owns
  iintro H
  iexists (m.view.read (Elt F) f)
  iexists f
  isplitr; · ipureintro; rfl
  iexact H

/-- Holding a block of rows is holding its elements at some contents that read so. -/
theorem pts_of_owns (c : Dev nD) (m : Memref sig .tc .vmem S32x512 .bf16) (v : S32x512.Idx → Elt F .bf16) :
    (owns (c : Thread nD τ) m fullShare v : sProp 𝕄) ⊢ iprop(∃ f : Buf (Elt F) (m.view.loc (c : Thread nD τ)), m.view.loc (c : Thread nD τ) ↦[m.view.set]{fullShare} f) := by
  unfold owns
  iintro ⟨%f, -, H⟩
  iexists f
  iexact H

/-! ## The receive buffer -/

/-- The slot no message arrives in. -/
def slotRest (d : Dev nD) : sProp 𝕄 :=
  iprop(∃ f : Buf (Elt F) ((d : Thread nD τ).loc cc0_scratch1), ((d : Thread nD τ).loc cc0_scratch1) ↦[restOf fun i => (slotM i).view.set]{fullShare} f)

/-- The receive buffer cut into its slots and the rest. -/
theorem slots_split (d : Dev nD) (f : Buf (Elt F) ((d : Thread nD τ).loc cc0_scratch1)) :
    (((d : Thread nD τ).loc cc0_scratch1) ↦{fullShare} f : sProp 𝕄)
      ⊢ iprop((bigSep Finset.univ fun i : Fin 31 => iprop(∃ v, owns (d : Thread nD τ) (slotM i.rev) fullShare v)) ∗ slotRest d) := by
  rw [cut_eq (fun i => (slotM i).view.set) slot_disjoint f, bigSep_rev]
  unfold slotRest
  iintro ⟨H, Hr⟩
  isplitl [H]
  · iapply (show (bigSep Finset.univ fun i : Fin 31 => (((d : Thread nD τ).loc cc0_scratch1) ↦[(slotM i.rev).view.set]{fullShare} f : sProp 𝕄))
      ⊢ bigSep Finset.univ fun i : Fin 31 => iprop(∃ v, owns (d : Thread nD τ) (slotM i.rev) fullShare v) from
        bigSep_mono fun i _ => owns_of_pts d (slotM i.rev) f)
    iexact H
  · iexists f; iexact Hr

/-- The receive buffer put together again from its filled slots and the rest. -/
theorem slots_join (X : Args F) (d : Dev nD) :
    iprop((bigSep Finset.univ fun i : Fin 31 => xPay X d i kRA) ∗ slotRest d)
      ⊢ (∃ f : Buf (Elt F) ((d : Thread nD τ).loc cc0_scratch1), ((d : Thread nD τ).loc cc0_scratch1) ↦{fullShare} f : sProp 𝕄) :=
  (sep_mono_left (show (bigSep Finset.univ fun i : Fin 31 => (xPay X d i kRA : sProp 𝕄))
      ⊢ bigSep Finset.univ fun i : Fin 31 => iprop(∃ f : Buf (Elt F) ((d : Thread nD τ).loc cc0_scratch1), ((d : Thread nD τ).loc cc0_scratch1) ↦[(slotM i).view.set]{fullShare} f)
    from bigSep_mono fun i _ => pts_of_owns d (slotM i) _)).trans
    (uncut (ℓ := (d : Thread nD τ).loc cc0_scratch1) (fun i => (slotM i).view.set) slot_disjoint)

/-! ## The sent copy -/

/-- The sent copy is the other devices' rows and the device's own. -/
theorem copy_eq (X : Args F) (d : Dev nD) :
    (((d : Thread nD τ).loc cc0_scratch0) ↦{fullShare} X d : sProp 𝕄)
      = iprop((bigSep Finset.univ fun i : Fin 31 => xPay X d i kSA) ∗ ((d : Thread nD τ).loc cc0_scratch0) ↦[restOf fun i => (peerM d i).view.set]{fullShare} X d) :=
  cut_eq (ℓ := (d : Thread nD τ).loc cc0_scratch0) (fun i => (peerM d i).view.set) (peer_disjoint d) (X d)

/-! ## The finished block -/

/-- The finished block is one share for each send and one kept. -/
theorem block_eq (X : Args F) (d : Dev nD) :
    (((d : Thread nD τ).loc cc0_scratch2) ↦{fullShare} outB X d : sProp 𝕄)
      = iprop(((d : Thread nD τ).loc cc0_scratch2 ↦{keptShare} outB X d) ∗ bigSep Finset.univ fun i : Fin 31 => xPay X d i kSB) := by
  refine (ShareLeaves.pointsTo_leaves (ℓ := (d : Thread nD τ).loc cc0_scratch2) Finset.univ (outB X d) 5 fullShare).trans ?_
  rw [bigSep_univ_equiv (finSumFinEquiv (m := 1) (n := 31)), BI.bigSep_univ_sum, bigSep_univ_of_subsingleton (0 : Fin 1)]
  have hset : (fM).view.set = Finset.univ := View.set_whole _
  have hB : ∀ i : Fin 31, (((d : Thread nD τ).loc cc0_scratch2) ↦{sendShare i} outB X d : sProp 𝕄) = xPay X d i kSB := fun i => by
    show _ = ((fM).view.loc (d : Thread nD τ) ↦[(fM).view.set]{sendShare i} outB X d : sProp 𝕄)
    rw [hset]
  rw [← bigSep_congr (s := Finset.univ) fun i _ => hB i]
  rfl

/-! ## The result -/

/-- Every element is one device's, in one place. -/
theorem rows_inj {b b' : Dev nD} {j j' : S32x512.Idx} (h : (ownR b).emb j = (ownR b').emb j') : b = b' ∧ j = j' := by
  obtain ⟨e0, e1⟩ := emb_ownR b j
  obtain ⟨e0', e1'⟩ := emb_ownR b' j'
  rw [h] at e0 e1
  have h0 : (j 0).val < 32 := (j 0).isLt
  have h0' : (j' 0).val < 32 := (j' 0).isLt
  refine ⟨Fin.ext (by omega), funext fun a => Fin.ext ?_⟩
  fin_cases a
  · show (j 0).val = (j' 0).val; omega
  · show (j 1).val = (j' 1).val; omega

/-- The whole result: every device's block in its rows. -/
def outAll (X : Args F) : S1024x512.Idx → Elt F .bf16 :=
  fun x => outB X (rows_cover x).choose (rows_cover x).choose_spec.choose

/-- In a device's rows the whole result is that device's block. -/
theorem outAll_rows (X : Args F) (b : Dev nD) (j : S32x512.Idx) : outAll X ((ownR b).emb j) = outB X b j := by
  have h := (rows_cover ((ownR b).emb j)).choose_spec.choose_spec
  obtain ⟨h1, h2⟩ := rows_inj h
  unfold outAll
  rw [h2]
  exact congrArg (fun c => outB X c j) h1

/-- Contents agreeing with the whole result on one device's rows. -/
theorem agrees (X : Args F) (b : Dev nD) (f : S1024x512.Idx → Elt F .bf16) (h : ∀ j, f ((ownR b).emb j) = outB X b j) :
    ∀ x : S1024x512.Idx, (x 0).val / 32 = b.val → f x = outAll X x := by
  intro x hx
  have hm : x ∈ (ownR b).set := (mem_ownR b x).mpr hx
  rw [← Rect.map_emb_univ] at hm
  obtain ⟨j, -, rfl⟩ := Finset.mem_map.mp hm
  exact (h j).trans (outAll_rows X b j).symm

/-- The device's own rows, among the result's. -/
abbrev outRest (d : Dev nD) : Finset S1024x512.Idx := restOf (ℓ := (d : Thread nD τ).loc cc0_stg1_0) fun i => (ownM (peer d i)).view.set

/-- What a device keeps of its result is its own rows. -/
theorem mem_outRest (d : Dev nD) (x : S1024x512.Idx) : x ∈ outRest d ↔ (x 0).val / 32 = d.val := by
  rw [mem_restOf]
  constructor
  · intro h
    by_contra hne
    have hx : (x 0).val < 1024 := (x 0).isLt
    have hb : (x 0).val / 32 < nD := by show _ < 32; omega
    obtain ⟨i, hi⟩ := exists_peer d ⟨(x 0).val / 32, hb⟩ fun e => hne (congrArg Fin.val e)
    exact h i ((mem_own (peer d i) x).mpr (congrArg Fin.val hi).symm)
  · intro h i hi
    rw [mem_own] at hi
    exact peer_ne d i (Fin.ext (hi.symm.trans h))

/-- The result buffer cut into the rows others fill and the device's own. -/
theorem result_split (d : Dev nD) (f : Buf (Elt F) ((d : Thread nD τ).loc cc0_stg1_0)) :
    (((d : Thread nD τ).loc cc0_stg1_0) ↦{fullShare} f : sProp 𝕄)
      ⊢ iprop((bigSep Finset.univ fun i : Fin 31 => iprop(∃ v, owns (d : Thread nD τ) (ownM (peer d i)) fullShare v))
          ∗ ((d : Thread nD τ).loc cc0_stg1_0) ↦[outRest d]{fullShare} f) := by
  rw [cut_eq (ℓ := (d : Thread nD τ).loc cc0_stg1_0) (fun i => (ownM (peer d i)).view.set) (own_disjoint d) f]
  exact sep_mono_left (bigSep_mono fun i _ => owns_of_pts d (ownM (peer d i)) f)

/-- A received block lies in its rows of the whole result. -/
theorem received (X : Args F) (d b : Dev nD) :
    (owns (d : Thread nD τ) (ownM b) fullShare (outB X b) : sProp 𝕄)
      ⊢ (((d : Thread nD τ).loc cc0_stg1_0) ↦[(ownM b).view.set]{fullShare} (outAll X : Buf (Elt F) ((d : Thread nD τ).loc cc0_stg1_0))) := by
  unfold owns
  iintro ⟨%f, %hf, H⟩
  have hj : ∀ j, f ((ownR b).emb j) = outB X b j := fun j => congrFun ((read_own b f).symm.trans hf) j
  have hx : ∀ x ∈ (ownM b).view.set, f x = outAll X x := fun x hx => agrees X b f hj x ((mem_own b x).mp hx)
  iapply (Entails.of_eq (pointsTo_congr (Ix := Unit) (Name := ℕ) (U := UU) (Lvl := ℕ) (ℓ := (d : Thread nD τ).loc cc0_stg1_0) (q := fullShare) (f := f) (g := outAll X) hx))
  iexact H

/-- The result buffer put together from the received blocks and the device's own: it holds the whole result. -/
theorem result_join (X : Args F) (d : Dev nD) (f : Buf (Elt F) ((d : Thread nD τ).loc cc0_stg1_0)) :
    iprop((bigSep Finset.univ fun i : Fin 31 => xPay X d i kRB)
        ∗ ((d : Thread nD τ).loc cc0_stg1_0) ↦[outRest d]{fullShare} ((oM.access (ownR d)).write (Elt F) f (outB X d) Finset.univ))
      ⊢ (((d : Thread nD τ).loc cc0_stg1_0) ↦{fullShare} (outAll X : Buf (Elt F) ((d : Thread nD τ).loc cc0_stg1_0)) : sProp 𝕄) := by
  have hx : ∀ x ∈ outRest d, (oM.access (ownR d)).write (Elt F) f (outB X d) Finset.univ x = outAll X x :=
    fun x hx => agrees X d _ (write_ownR d f (outB X d)) x ((mem_outRest d x).mp hx)
  rw [cut_eq (ℓ := (d : Thread nD τ).loc cc0_stg1_0) (fun i => (ownM (peer d i)).view.set) (own_disjoint d) (outAll X),
    pointsTo_congr (ℓ := (d : Thread nD τ).loc cc0_stg1_0) (g := outAll X) hx,
    bigSep_rev (fun i => (((d : Thread nD τ).loc cc0_stg1_0) ↦[(ownM (peer d i)).view.set]{fullShare} (outAll X : Buf (Elt F) ((d : Thread nD τ).loc cc0_stg1_0)) : sProp 𝕄))]
  exact sep_mono_left (bigSep_mono fun i _ => received X d (peer d i.rev))

/-- The store of the device's own rows falls in what it kept of the result. -/
theorem own_kept (d : Dev nD) : (oM.access (ownR d)).setOn Finset.univ ⊆ outRest d := by
  intro x hx
  rw [mem_outRest, ← mem_ownR]
  have : (oM.access (ownR d)).setOn Finset.univ = (ownR d).set := View.set_slice_whole _ _
  rwa [this] at hx

/-! ## The cells -/

omit [FloatOps F] in
/-- Resources over the four kinds of transfer cell, one by one. -/
theorem bigSep_four (Φ : Fin 4 → sProp 𝕄) : bigSep Finset.univ Φ = iprop(Φ kSA ∗ Φ kSB ∗ Φ kRA ∗ Φ kRB) :=
  bigSep_univ_eq_bigSepL [kSA, kSB, kRA, kRB] (by decide) (by decide) Φ

omit [FloatOps F] in
/-- One for each cell: the barrier's, the spare ones', the transfers'. -/
theorem bigSep_cells (Φ : KCell → sProp 𝕄) :
    bigSep Finset.univ Φ = iprop(Φ barK ∗ (bigSep Finset.univ fun a => Φ (.inr (.inl a)))
      ∗ (bigSep Finset.univ fun i => Φ (xK kSA i)) ∗ (bigSep Finset.univ fun i => Φ (xK kSB i))
      ∗ (bigSep Finset.univ fun i => Φ (xK kRA i)) ∗ (bigSep Finset.univ fun i => Φ (xK kRB i))) := by
  rw [BI.bigSep_univ_sum, BI.bigSep_univ_sum, bigSep_univ_of_subsingleton (), bigSep_univ_prod,
    bigSep_four fun a => bigSep Finset.univ fun i => Φ (.inr (.inr (a, i)))]
  rfl

/-- How many rounds a cell runs through. -/
def rounds : KCell → ℕ
  | .inr (.inl _) => 0
  | _ => 1

/-- After its last round a cell has no turns. -/
theorem duties_over (X : Args F) (c : Dev nD) (k : KCell) : ∀ r, rounds k ≤ r → (Rd X).duties (cellK c k) r = ∅ := by
  intro r hr
  match k, hr with
  | .inl _, hr => exact duties_later X _ r hr
  | .inr (.inl a), _ => exact duties_spare X c a r
  | .inr (.inr _), hr => exact duties_later X _ r hr

/-- A cell at its end gives back its counter at zero. -/
theorem close_cell (X : Args F) (K : Dev nD × KCell → ℕ) (c : Dev nD) (k : KCell) :
    iprop(records X K ∗ atPos ER (cellK c k) (rounds k) ∅ 0) ⊢ (|={Set.univ}=> semVal (cellK c k) 0 : sProp 𝕄) := by
  iintro ⟨#Hr, Hat⟩
  imod (Rounds.cell_close ER (Rd X) (Set.mem_univ (K (c, k))) (fun h => h) (R := rounds k) (duties_over X c k)) $$ [Hat] with H
  · isplitr; · iapply (inv_at X K c k); iexact Hr
    iexact Hat
  imodintro
  iexact H

/-- Every cell of a device through its rounds: all its counters are zero again. -/
theorem close_cells (X : Args F) (K : Dev nD × KCell → ℕ) (c : Dev nD) :
    iprop(records X K ∗ bigSep Finset.univ fun k : KCell => atPos ER (cellK c k) (rounds k) ∅ 0)
      ⊢ (|={Set.univ}=> bigSep Finset.univ fun k : KCell => semVal (cellK c k) 0 : sProp 𝕄) :=
  (BI.bigSep_with_persistent fun k _ => close_cell X K c k).trans (bigSep_fupd _ _)

end Cert.AllReduce

end
-- ==== Proof.Body.lean ====
/-
One device's body, from what it starts with to what it ends with: the loops of `Phases`, the buffers taken apart and
joined by `Pieces`, and the loads and stores between.
-/
module

public import proofs.«01_k».proof.Proof.Pieces

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts with -/

/-- The turns device `c` pays: each other device's barrier, its own sends, the receives it fills. -/
def payToks (c : Dev nD) : sProp 𝕄 :=
  iprop((bigSep Finset.univ fun i : Fin 31 => dutyTok ER (barCell (peer c i)) 0 i.rev)
    ∗ (bigSep Finset.univ fun i : Fin 31 => dutyTok ER (xCell kSA c i) 0 0)
    ∗ (bigSep Finset.univ fun i : Fin 31 => dutyTok ER (xCell kSB c i) 0 0)
    ∗ (bigSep Finset.univ fun i : Fin 31 => dutyTok ER (xCell kRA (peer c i) i) 0 0)
    ∗ (bigSep Finset.univ fun i : Fin 31 => dutyTok ER (xCell kRB (peer c i) i) 0 0))

/-- Its rights: to thirty-one signals, and to each transfer it will receive. -/
def credits (c : Dev nD) : sProp 𝕄 :=
  iprop(cred (tallyAt (barCell c) () 31)
    ∗ (bigSep Finset.univ fun i : Fin 31 => cred (tallyAt (xCell kRA c i) () N))
    ∗ (bigSep Finset.univ fun i : Fin 31 => cred (tallyAt (xCell kRB c i) () N)))

/-- The exchange's ghost state at device `c`. -/
def ghost (X : Args F) (K : Dev nD × KCell → ℕ) (c : Dev nD) : sProp 𝕄 :=
  iprop(records X K ∗ (bigSep Finset.univ fun k : KCell => atPos ER (cellK c k) 0 ∅ 0) ∗ payToks c)

/-! ## Per-iteration resources collected -/

/-- What the thirty-one signals hand over: every slot of the receive buffer and the rows of the result the others fill, with their turns. -/
theorem sig_intro (d : Dev nD) :
    iprop((bigSep Finset.univ fun i : Fin 31 => dutyTok ER (barCell (peer d i)) 0 i.rev)
        ∗ (bigSep Finset.univ fun i : Fin 31 => iprop(∃ v, owns (d : Thread nD τ) (slotM i.rev) fullShare v))
        ∗ (bigSep Finset.univ fun i : Fin 31 => iprop(∃ v, owns (d : Thread nD τ) (ownM (peer d i)) fullShare v)))
      ⊢ (over (sigRes (F := F) d) iters : sProp 𝕄) :=
  Entails.of_eq (by rw [over_iters]; unfold sigRes; rw [bigSep_sep', bigSep_sep'])

/-- What the barrier gives: at each other device, the slot and the rows to write. -/
theorem bar_elim (d : Dev nD) :
    (bigSep Finset.univ fun i => barPay (F := F) d i : sProp 𝕄)
      ⊢ iprop((bigSep Finset.univ fun i : Fin 31 => iprop(∃ v, owns (peer d i : Thread nD τ) (slotM i) fullShare v))
        ∗ (bigSep Finset.univ fun i : Fin 31 => iprop(∃ v, owns (peer d i : Thread nD τ) (ownM d) fullShare v))) :=
  Entails.of_eq (by unfold barPay; rw [bigSep_sep'])

/-- What the first thirty-one sends need, gathered. -/
theorem resA_intro (X : Args F) (d : Dev nD) :
    iprop((bigSep Finset.univ fun i : Fin 31 => xPay X d i kSA)
        ∗ (bigSep Finset.univ fun i : Fin 31 => iprop(∃ v, owns (peer d i : Thread nD τ) (slotM i) fullShare v))
        ∗ (bigSep Finset.univ fun i : Fin 31 => dutyTok ER (xCell kSA d i) 0 0)
        ∗ (bigSep Finset.univ fun i : Fin 31 => dutyTok ER (xCell kRA (peer d i) i) 0 0))
      ⊢ (over (resA X d) iters : sProp 𝕄) :=
  Entails.of_eq (by rw [over_iters]; unfold resA; rw [bigSep_sep', bigSep_sep', bigSep_sep']; rfl)

/-- What the second thirty-one sends need, gathered. -/
theorem resB_intro (X : Args F) (d : Dev nD) :
    iprop((bigSep Finset.univ fun i : Fin 31 => xPay X d i kSB)
        ∗ (bigSep Finset.univ fun i : Fin 31 => iprop(∃ v, owns (peer d i : Thread nD τ) (ownM d) fullShare v))
        ∗ (bigSep Finset.univ fun i : Fin 31 => dutyTok ER (xCell kSB d i) 0 0)
        ∗ (bigSep Finset.univ fun i : Fin 31 => dutyTok ER (xCell kRB (peer d i) i) 0 0))
      ⊢ (over (resB X d) iters : sProp 𝕄) :=
  Entails.of_eq (by rw [over_iters]; unfold resB; rw [bigSep_sep', bigSep_sep', bigSep_sep']; rfl)

/-- The waits still to do, gathered from the positions and the rights. -/
theorem todo_intro (d : Dev nD) (a : Fin 4) :
    iprop((bigSep Finset.univ fun i : Fin 31 => cred (tallyAt (xCell a d i) () N))
        ∗ (bigSep Finset.univ fun i : Fin 31 => atPos ER (xCell a d i) 0 ∅ 0))
      ⊢ (over (todo (F := F) d a) iters : sProp 𝕄) :=
  Entails.of_eq (by rw [over_iters]; unfold todo; rw [bigSep_sep'])

/-- What thirty-one waits leave, taken apart. -/
theorem got_elim (X : Args F) (d : Dev nD) (a : Fin 4) :
    (over (got X d a) iters : sProp 𝕄)
      ⊢ iprop((bigSep Finset.univ fun i : Fin 31 => atPos ER (xCell a d i) 1 ∅ 0) ∗ (bigSep Finset.univ fun i : Fin 31 => xPay X d i a)) :=
  Entails.of_eq (by rw [over_iters]; unfold got; rw [bigSep_sep'])

/-- All of a device's cells, listed by kind, at the end of their rounds. -/
theorem ends_intro (c : Dev nD) :
    iprop(atPos ER (barCell c) 1 ∅ 0 ∗ (bigSep Finset.univ fun a : Fin 4 => atPos ER (cellK c (.inr (.inl a))) 0 ∅ 0)
        ∗ (bigSep Finset.univ fun i : Fin 31 => atPos ER (xCell kSA c i) 1 ∅ 0) ∗ (bigSep Finset.univ fun i : Fin 31 => atPos ER (xCell kSB c i) 1 ∅ 0)
        ∗ (bigSep Finset.univ fun i : Fin 31 => atPos ER (xCell kRA c i) 1 ∅ 0) ∗ (bigSep Finset.univ fun i : Fin 31 => atPos ER (xCell kRB c i) 1 ∅ 0))
      ⊢ (bigSep Finset.univ fun k : KCell => atPos ER (cellK c k) (rounds k) ∅ 0 : sProp 𝕄) :=
  Entails.of_eq (by rw [bigSep_cells (fun k : KCell => (atPos ER (cellK c k) (rounds k) ∅ 0 : sProp 𝕄))]; rfl)

/-- and before them. -/
theorem begins_elim (c : Dev nD) :
    (bigSep Finset.univ fun k : KCell => atPos ER (cellK c k) 0 ∅ 0 : sProp 𝕄)
      ⊢ iprop(atPos ER (barCell c) 0 ∅ 0 ∗ (bigSep Finset.univ fun a : Fin 4 => atPos ER (cellK c (.inr (.inl a))) 0 ∅ 0)
        ∗ (bigSep Finset.univ fun i : Fin 31 => atPos ER (xCell kSA c i) 0 ∅ 0) ∗ (bigSep Finset.univ fun i : Fin 31 => atPos ER (xCell kSB c i) 0 ∅ 0)
        ∗ (bigSep Finset.univ fun i : Fin 31 => atPos ER (xCell kRA c i) 0 ∅ 0) ∗ (bigSep Finset.univ fun i : Fin 31 => atPos ER (xCell kRB c i) 0 ∅ 0)) :=
  Entails.of_eq (by rw [bigSep_cells (fun k : KCell => (atPos ER (cellK c k) 0 ∅ 0 : sProp 𝕄))]; rfl)

section Run

variable (X : Args F) (K : Dev nD × KCell → ℕ) (c : Dev nD)

local notation "run" p:max Q:max => wp frame (wpE (defs₀ (F := F)) 𝒱₀ (c : Thread nD τ) none) Set.univ p Q

/-! ## From the finished sum on -/

/-- Before: the sum is finished and nothing of the second round has begun. -/
def tailPre (f2 : Buf (Elt F) ((c : Thread nD τ).loc cc0_scratch2)) (fo : Buf (Elt F) ((c : Thread nD τ).loc cc0_stg1_0)) : sProp 𝕄 :=
  iprop(ow c (owB c) ∗ (((c : Thread nD τ).loc cc0_scratch2) ↦{fullShare} f2) ∗ (((c : Thread nD τ).loc cc0_stg1_0) ↦[outRest c]{fullShare} fo)
    ∗ (bigSep Finset.univ fun i : Fin 31 => iprop(∃ v, owns (peer c i : Thread nD τ) (ownM c) fullShare v))
    ∗ (bigSep Finset.univ fun i : Fin 31 => dutyTok ER (xCell kSB c i) 0 0)
    ∗ (bigSep Finset.univ fun i : Fin 31 => dutyTok ER (xCell kRB (peer c i) i) 0 0)
    ∗ over (todo c kRB) iters ∗ over (todo c kSA) iters
    ∗ (bigSep Finset.univ fun i : Fin 31 => atPos ER (xCell kSB c i) 0 ∅ 0))

/-- After: the result is whole, the block and the sent rows are back, every transfer is over. -/
def tailPost : sProp 𝕄 :=
  iprop(ow c 0 ∗ (((c : Thread nD τ).loc cc0_scratch2) ↦{fullShare} outB X c)
    ∗ (((c : Thread nD τ).loc cc0_stg1_0) ↦{fullShare} (outAll X : Buf (Elt F) ((c : Thread nD τ).loc cc0_stg1_0)))
    ∗ (bigSep Finset.univ fun i : Fin 31 => xPay X c i kSA)
    ∗ (bigSep Finset.univ fun i : Fin 31 => atPos ER (xCell kSA c i) 1 ∅ 0) ∗ (bigSep Finset.univ fun i : Fin 31 => atPos ER (xCell kSB c i) 1 ∅ 0)
    ∗ (bigSep Finset.univ fun i : Fin 31 => atPos ER (xCell kRB c i) 1 ∅ 0))

/-- From the finished sum to the end of the body. -/
theorem tail_wp (f2 : Buf (Elt F) ((c : Thread nD τ).loc cc0_scratch2)) (fo : Buf (Elt F) ((c : Thread nD τ).loc cc0_stg1_0)) (Q : PUnit → sProp 𝕄) :
    iprop(records X K ∗ levAts L lv ∗ tailPre c f2 fo) ⊢ iprop((tailPost X c -∗ |={Set.univ}=> Q ⟨⟩) -∗ run (tailProg c (total X c)) Q) := by
  unfold tailPre tailProg
  iintro ⟨#Hr, #Hlev, HO, Hf, Hout, Hdst, HtS, HtR, HtodoR, HtodoS, HatS⟩ Hk
  iapply (wp_load 𝒱₀ (c : Thread nD τ) none Set.univ (m := fM) (Finset.subset_univ _)) $$ Hf; iintro Hf
  iapply (wp_store 𝒱₀ (c : Thread nD τ) none Set.univ (m := fM) (r := fR) (Mk := Finset.univ) (Finset.subset_univ _)) $$ Hf; iintro Hf
  rw [write_fR, show shapeCast S32x512 (accDone (total X c)) shapeCasts_S32x512_S32x512 = outB X c from shapeCast_self _ _]
  ihave Hf := (Entails.of_eq (block_eq X c)) $$ Hf
  icases Hf with ⟨Hkept, Hsh⟩
  iapply (sendsB_wp X K c _ Q 0 iters) $$ [HO Hsh Hdst HtS HtR]
  · isplitr; · iexact Hr
    isplitl [HO]; · iexact HO
    iapply (resB_intro X c)
    isplitl [Hsh]; · iexact Hsh
    isplitl [Hdst]; · iexact Hdst
    isplitl [HtS] <;> iassumption
  iintro ⟨HO, HcS⟩
  iapply (wp_load 𝒱₀ (c : Thread nD τ) none Set.univ (m := oM) (r := (ownR c).toLoadRect) (S := outRest c)
    ((View.set_slice (View.whole cc0_stg1_0) (ownR c)).symm.le.trans (own_kept c))) $$ Hout
  iintro Hout
  iapply (wp_store 𝒱₀ (c : Thread nD τ) none Set.univ (m := oM) (r := ownR c) (Mk := Finset.univ) (own_kept c)) $$ Hout
  iintro Hout
  iapply (waitsB_wp X K c _ Q iters) $$ [HO HtodoR]
  · isplitr; · iexact Hr
    isplitr; · iexact Hlev
    isplitl [HO] <;> iassumption
  iintro ⟨HO, HgR⟩
  iapply (drainA_wp X K c _ Q iters) $$ [HO HtodoS]
  · isplitr; · iexact Hr
    isplitr; · iexact Hlev
    isplitl [HO] <;> iassumption
  iintro ⟨HO, HgA⟩
  iapply (drainB_wp X K c _ Q iters) $$ [HO HcS HatS]
  · isplitr; · iexact Hr
    isplitr; · iexact Hlev
    isplitl [HO]; · iexact HO
    iapply (todo_intro c kSB)
    isplitl [HcS]
    · iapply (Entails.of_eq (over_iters (fun i => (cred (tallyAt (xCell kSB c i) () N) : sProp 𝕄)))); iexact HcS
    · iexact HatS
  iintro ⟨HO, HgB⟩
  rw [wp_ret]
  iapply Hk
  ihave HgR := (got_elim X c kRB) $$ HgR
  ihave HgA := (got_elim X c kSA) $$ HgA
  ihave HgB := (got_elim X c kSB) $$ HgB
  icases HgR with ⟨HaR, HpR⟩
  icases HgA with ⟨HaA, HpA⟩
  icases HgB with ⟨HaB, HpB⟩
  unfold tailPost
  isplitl [HO]; · iexact HO
  isplitl [Hkept HpB]
  · iapply (Entails.of_eq (block_eq X c).symm)
    isplitl [Hkept] <;> iassumption
  isplitl [Hout HpR]
  · iapply (result_join X c fo)
    isplitl [HpR]; · iexact HpR
    iexact Hout
  isplitl [HpA]; · iexact HpA
  isplitl [HaA]; · iexact HaA
  isplitl [HaB] <;> iassumption

/-! ## The whole body -/

/-- The body's buffers at its start: three scratch buffers, the argument, the result. -/
def bufs (f0 : Buf (Elt F) ((c : Thread nD τ).loc cc0_scratch0)) (f1 : Buf (Elt F) ((c : Thread nD τ).loc cc0_scratch1))
    (f2 : Buf (Elt F) ((c : Thread nD τ).loc cc0_scratch2)) (fo : Buf (Elt F) ((c : Thread nD τ).loc cc0_stg1_0)) : sProp 𝕄 :=
  iprop((((c : Thread nD τ).loc cc0_scratch0) ↦{fullShare} f0) ∗ (((c : Thread nD τ).loc cc0_scratch1) ↦{fullShare} f1)
    ∗ (((c : Thread nD τ).loc cc0_scratch2) ↦{fullShare} f2) ∗ (((c : Thread nD τ).loc cc0_stg0_0) ↦{fullShare} X c)
    ∗ (((c : Thread nD τ).loc cc0_stg1_0) ↦{fullShare} fo))

/-- The scratch buffers, whole, whatever they hold. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- At the end: every counter zero, nothing owed, the argument unchanged, the result whole. -/
def bodyEnd : sProp 𝕄 :=
  iprop(scratch c ∗ (bigSep Finset.univ fun k : KCell => semVal (cellK c k) 0) ∗ ow c 0
    ∗ (((c : Thread nD τ).loc cc0_stg0_0) ↦{fullShare} X c)
    ∗ (((c : Thread nD τ).loc cc0_stg1_0) ↦{fullShare} (outAll X : Buf (Elt F) ((c : Thread nD τ).loc cc0_stg1_0))))

set_option maxHeartbeats 1000000 in
/-- The whole body: from the launch's ghost state and the staged buffers to the result and every counter at zero. -/
theorem loops_wp (f0 f1 f2 fo) (Q : PUnit → sProp 𝕄) :
    iprop(ghost X K c ∗ credits c ∗ levAts L lv ∗ ow c (O₀ c) ∗ bufs X c f0 f1 f2 fo) ⊢ iprop((bodyEnd X c -∗ Q ⟨⟩) -∗ run loopBody Q) := by
  unfold ghost payToks credits bufs loopBody
  rw [wp_deviceId]
  iintro ⟨⟨#Hr, Hat, HtB, HtSA, HtSB, HtRA, HtRB⟩, ⟨HcB, HcRA, HcRB⟩, #Hlev, HO, Ht, Hrs, Hf, Hx, Hout⟩ Hk
  ihave Hat := (begins_elim c) $$ Hat
  icases Hat with ⟨HaB, Hspare, HaSA, HaSB, HaRA, HaRB⟩
  -- the barrier: the slots and the result rows are lent out, the other devices' come in
  ihave Hrs := (slots_split c f1) $$ Hrs
  icases Hrs with ⟨Hslots, HrsRest⟩
  ihave Hout := (result_split c fo) $$ Hout
  icases Hout with ⟨Hrows, Hout⟩
  iapply (signals_wp X K c _ Q (owA c) iters) $$ [HO HtB Hslots Hrows]
  · isplitr; · iexact Hr
    isplitl [HO]; · iexact HO
    iapply (sig_intro c)
    isplitl [HtB]; · iexact HtB
    isplitl [Hslots] <;> iassumption
  iintro HO
  iapply (barrier_wp X K c _ Q) $$ [HO HcB HaB]
  · isplitr; · iexact Hr
    isplitr; · iexact Hlev
    isplitl [HcB]; · iexact HcB
    isplitl [HO] <;> iassumption
  iintro ⟨HO, HaB, Hpay⟩
  ihave Hpay := (bar_elim c) $$ Hpay
  icases Hpay with ⟨HdstA, HdstB⟩
  -- the copy that is sent from
  unfold midProg
  iapply (wp_load 𝒱₀ (c : Thread nD τ) none Set.univ (m := xM) (Finset.subset_univ _)) $$ Hx; iintro Hx
  rw [readAt_allR]
  iapply (wp_load 𝒱₀ (c : Thread nD τ) none Set.univ (m := tM) (Finset.subset_univ _)) $$ Ht; iintro Ht
  iapply (wp_store 𝒱₀ (c : Thread nD τ) none Set.univ (m := tM) (r := allR) (Mk := Finset.univ) (Finset.subset_univ _)) $$ Ht; iintro Ht
  rw [write_allR, show k0_pay1 (X c) = X c from by unfold k0_pay1; simp only [shapeCast_self]]
  ihave Ht := (Entails.of_eq (copy_eq X c)) $$ Ht
  icases Ht with ⟨HsrcA, HtRest⟩
  iapply (sendsA_wp X K c _ Q (owB c) iters) $$ [HO HsrcA HdstA HtSA HtRA]
  · isplitr; · iexact Hr
    isplitl [HO]; · iexact HO
    iapply (resA_intro X c)
    isplitl [HsrcA]; · iexact HsrcA
    isplitl [HdstA]; · iexact HdstA
    isplitl [HtSA] <;> iassumption
  iintro ⟨HO, HcSA⟩
  -- the sum
  iapply (wp_load 𝒱₀ (c : Thread nD τ) none Set.univ (m := xM) (Finset.subset_univ _)) $$ Hx; iintro Hx
  rw [readAt_ownR]
  iapply (gathers_wp X K c _ Q iters (accInit (rowsOf (X c) c))) $$ [HO HcRA HaRA]
  · isplitr; · iexact Hr
    isplitr; · iexact Hlev
    isplitl [HO]; · iexact HO
    iapply (todo_intro c kRA)
    isplitl [HcRA] <;> iassumption
  iintro ⟨HO, HgRA⟩
  ihave HgRA := (got_elim X c kRA) $$ HgRA
  icases HgRA with ⟨HaRA, HpRA⟩
  rw [show iters.foldl (accRows X c) (accInit (rowsOf (X c) c)) = total X c from rfl]
  -- the rest
  iapply (tail_wp X K c f2 fo Q) $$ [HO Hf Hout HdstB HtSB HtRB HcRB HaRB HcSA HaSA HaSB]
  · isplitr; · iexact Hr
    isplitr; · iexact Hlev
    unfold tailPre
    isplitl [HO]; · iexact HO
    isplitl [Hf]; · iexact Hf
    isplitl [Hout]; · iexact Hout
    isplitl [HdstB]; · iexact HdstB
    isplitl [HtSB]; · iexact HtSB
    isplitl [HtRB]; · iexact HtRB
    isplitl [HcRB HaRB]
    · iapply (todo_intro c kRB)
      isplitl [HcRB] <;> iassumption
    isplitl [HcSA HaSA]
    · iapply (todo_intro c kSA)
      isplitl [HcSA]
      · iapply (Entails.of_eq (over_iters (fun i => (cred (tallyAt (xCell kSA c i) () N) : sProp 𝕄)))); iexact HcSA
      · iexact HaSA
    iexact HaSB
  unfold tailPost
  iintro ⟨HO, Hf, Hout, HpSA, HaSA, HaSB, HaRB⟩
  imod (close_cells X K c) $$ [HaB Hspare HaSA HaSB HaRA HaRB] with Hz
  · isplitr; · iexact Hr
    iapply (ends_intro c)
    isplitl [HaB]; · iexact HaB
    isplitl [Hspare]; · iexact Hspare
    isplitl [HaSA]; · iexact HaSA
    isplitl [HaSB]; · iexact HaSB
    isplitl [HaRA] <;> iassumption
  imodintro
  iapply Hk
  unfold bodyEnd scratch
  isplitl [HpSA HtRest HpRA HrsRest Hf]
  · isplitl [HpSA HtRest]
    · iexists (X c : Buf (Elt F) ((c : Thread nD τ).loc cc0_scratch0))
      iapply (Entails.of_eq (copy_eq X c).symm)
      isplitl [HpSA] <;> iassumption
    isplitl [HpRA HrsRest]
    · iapply (slots_join X c)
      isplitl [HpRA] <;> iassumption
    · iexists (outB X c : Buf (Elt F) ((c : Thread nD τ).loc cc0_scratch2))
      iexact Hf
  isplitl [Hz]; · iexact Hz
  isplitl [HO]; · iexact HO
  isplitl [Hx] <;> iassumption

end Run

end Cert.AllReduce

end
-- ==== Proof.Run.lean ====
/-
The whole run. The ghost state is made at launch, every cell's invariant is set up, the turns go to the devices that take
them, and each device gets the rights to what it is owed. Every run then ends, every counter zero, the argument unchanged
and the result array at `outAll`.
-/
module

public import proofs.«01_k».proof.Proof.Body
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Every device's argument, as the body sees it. -/
def args : Args F := fun c => (win0_0.blk (0 : Fin 1)).view.read (Elt F) (m ((c : Thread nD τ).loc main_arg0))

/-! ## The pipeline's data -/

/-- What a device starts from. -/
def start (c : Dev nD) : sProp 𝕄 := iprop((∃ K, ghost (args m) K c) ∗ credits c ∗ levAts L lv)
/-- Before the body: what the device starts from and its scratch buffers. -/
def Φ₀ (c : Dev nD) : sProp 𝕄 := iprop(start m c ∗ scratch c)
/-- After it: the scratch buffers and every counter at zero. -/
def Φ₁ (c : Dev nD) : sProp 𝕄 := iprop(scratch c ∗ bigSep Finset.univ fun k : KCell => semVal (cellK c k) 0)

/-- The pipeline's data: the argument fetched, the result written back whole, the debts paid in the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => args m c
    | ⟨1, _⟩ => outAll (args m)
  Φ t := match t with
    | ⟨0, _⟩ => Φ₀ m c
    | ⟨_ + 1, _⟩ => Φ₁ c
  q _ := fullShare
  owed t := match t with
    | ⟨0, _⟩ => O₀ c
    | ⟨_ + 1, _⟩ => 0

/-- The one point of the grid. -/
def t₀ : Fin cfg0.N := ⟨0, by decide⟩
/-- There is no other. -/
theorem point_eq (t : Fin cfg0.N) : t = t₀ := by
  obtain ⟨t, ht⟩ := t
  have h : cfg0.N = 1 := by decide
  exact Fin.ext (by simp only [t₀]; omega)

/-- The argument is fetched. -/
theorem fetches (t : Fin cfg0.N) : (cfg0.win (0 : Fin 2)).fetch t = true := by rw [point_eq t]; rfl

/-- A whole staging buffer held at `X`. -/
abbrev stage (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Holding a whole staging buffer, unfolded. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stage c b X := by
  unfold owns; simp only [Memref.view_whole, View.read_whole, View.set_whole]

/-- What the body is run from. -/
def bodyPre (c : Dev nD) : sProp 𝕄 :=
  iprop(Φ₀ m c ∗ (dats m ρ 0 c).owesAt () t₀.castSucc
    ∗ (∃ d, stage c cc0_stg0_0 ((dats m ρ 0 c).before (0 : Fin 2) t₀ d))
    ∗ (∃ d, stage c cc0_stg1_0 ((dats m ρ 0 c).before (1 : Fin 2) t₀ d)))

/-- What the body leaves. -/
def bodyPost (c : Dev nD) : sProp 𝕄 :=
  iprop(Φ₁ c ∗ (dats m ρ 0 c).owesAt () t₀.succ ∗ stage c cc0_stg0_0 (args m c) ∗ stage c cc0_stg1_0 (outAll (args m)))

/-- The body written as loops, between the two. -/
theorem body_sound (c : Dev nD) :
    bodyPre m ρ c ⊢ wp frame (wpE (defs₀ (F := F)) 𝒱₀ c none) Set.univ loopBody (fun _ => bodyPost m ρ c) := by
  unfold bodyPre Φ₀ start scratch
  iintro ⟨⟨⟨⟨%K, Hg⟩, Hcr, #Hlev⟩, ⟨%f0, H0⟩, ⟨%f1, H1⟩, ⟨%f2, H2⟩⟩, Ho, ⟨%d0, %g0, %hg0, Hx⟩, ⟨%d1, %g1, %hg1, Hout⟩⟩
  have hx : g0 = args m c := by rw [hg0]; unfold Dat.before; rw [if_pos (fetches t₀)]; rfl
  subst hx
  unfold Dat.owesAt Pipeline.owesWithin
  icases Ho with ⟨%W, %hW, HO⟩
  iapply (loops_wp (args m) K c f0 f1 f2 g1 fun _ => bodyPost m ρ c) $$ [Hg Hcr HO H0 H1 H2 Hx Hout]
  · isplitl [Hg]; · iexact Hg
    isplitl [Hcr]; · iexact Hcr
    isplitr; · iexact Hlev
    isplitl [HO]
    · unfold ow; iexists W; iexact HO
    unfold bufs
    isplitl [H0]; · iexact H0
    isplitl [H1]; · iexact H1
    isplitl [H2]; · iexact H2
    isplitl [Hx] <;> iassumption
  unfold bodyEnd bodyPost Φ₁ ow Dat.owesAt Pipeline.owesWithin
  rw [show (dats m ρ 0 c).owed t₀.succ = 0 from rfl]
  iintro ⟨Hs, Hz, ⟨%W', HO⟩, Hx, Hout⟩
  isplitl [Hs Hz]
  · isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The body as printed is the loops, so it keeps the pipeline's contract. -/
theorem body_obligation (c : Dev nD) : BodyObligation (dats (F := F) m ρ 0 c) (defs₀ (F := F)) 𝒱₀ () Set.univ := fun t => by
  rw [point_eq t, bigSep_W0, bigSep_W0]
  simp only [owns_stage]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  rw [body_eq_loops]
  exact body_sound m ρ c

/-! ## The ghost state at launch -/

/-- The arrays are held in full. -/
theorem share_eq (c : Dev nD) (w : Fin cfg0.W) : (dats m ρ 0 c).share w = fullShare := by unfold Dat.share; split <;> rfl

/-- Different devices and cells are different places. -/
theorem cellK_inj : Function.Injective (fun ck : Dev nD × KCell => cellK ck.1 ck.2) := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-- Every device's cells. -/
def cells : Finset (GSem nD τ sig) := Finset.univ.map ⟨fun ck : Dev nD × KCell => cellK ck.1 ck.2, cellK_inj⟩

/-- A device's own turns: thirty-one at its barrier cell, one at each transfer cell. -/
abbrev KTok : Type := Fin 31 ⊕ Fin 4 × Fin 31
/-- The place, round and name of a turn. -/
def tokOf (ct : Dev nD × KTok) : GSem nD τ sig × ℕ × Fin 31 :=
  match ct.2 with
  | .inl i => (barCell ct.1, 0, i)
  | .inr (a, i) => (xCell a ct.1 i, 0, 0)

/-- Different turns are different. -/
theorem tokOf_inj : Function.Injective tokOf := by
  rintro ⟨c, t⟩ ⟨c', t'⟩ h
  have hc (k k' : KCell) (x x' : ℕ × Fin 31) (h : (cellK c k, x) = (cellK c' k', x')) : c = c' ∧ k = k' ∧ x = x' := by
    have := cellK_inj (a₁ := (c, k)) (a₂ := (c', k')) (congrArg Prod.fst h)
    exact ⟨congrArg Prod.fst this, congrArg Prod.snd this, congrArg Prod.snd h⟩
  match t, t', h with
  | .inl i, .inl i', h =>
    obtain ⟨h1, -, h3⟩ := hc barK barK (0, i) (0, i') h
    have h4 : i = i' := congrArg Prod.snd h3
    rw [h1, h4]
  | .inl i, .inr (a, i'), h =>
    obtain ⟨-, h2, -⟩ := hc barK (xK a i') _ _ h
    cases h2
  | .inr (a, i), .inl i', h =>
    obtain ⟨-, h2, -⟩ := hc (xK a i) barK _ _ h
    cases h2
  | .inr (a, i), .inr (a', i'), h =>
    obtain ⟨h1, h2, -⟩ := hc (xK a i) (xK a' i') _ _ h
    cases h2
    rw [h1]

/-- Every turn. -/
def turns : Finset (GSem nD τ sig × ℕ × Fin 31) := Finset.univ.map ⟨tokOf, tokOf_inj⟩

/-- The ghost state made at launch. -/
def u₀ : UU := (initOf (Pipeline.cells cfgs cellOf_inj) (Pipeline.launchToks cfgs cellOf_inj), initOf cells turns)

/-- The turns at device `c`'s cells, as made. -/
def toks (c : Dev nD) : sProp 𝕄 :=
  iprop((bigSep Finset.univ fun i : Fin 31 => dutyTok ER (barCell c) 0 i)
    ∗ (bigSep Finset.univ fun i : Fin 31 => dutyTok ER (xCell kSA c i) 0 0)
    ∗ (bigSep Finset.univ fun i : Fin 31 => dutyTok ER (xCell kSB c i) 0 0)
    ∗ (bigSep Finset.univ fun i : Fin 31 => dutyTok ER (xCell kRA c i) 0 0)
    ∗ (bigSep Finset.univ fun i : Fin 31 => dutyTok ER (xCell kRB c i) 0 0))

/-- A device's part of it. -/
def G (c : Dev nD) : sProp 𝕄 :=
  iprop((bigSep Finset.univ fun k : KCell => roundState ER (Rd (args m)) (cellK c k) 0)
    ∗ (bigSep Finset.univ fun k : KCell => atPos ER (cellK c k) 0 ∅ 0) ∗ (bigSep Finset.univ fun k : KCell => reached ER (cellK c k) 0) ∗ toks c)
/-- A device's part once the invariants are set up and the turns handed round. -/
def G' (c : Dev nD) : sProp 𝕄 := iprop(∃ K, ghost (args m) K c)

omit [FloatOps F] in
/-- Resources over all cells, device by device. -/
theorem over_cells (Φ : GSem nD τ sig → sProp 𝕄) :
    bigSep cells Φ = bigSep Finset.univ fun c : Dev nD => bigSep Finset.univ fun k : KCell => Φ (cellK c k) := by
  unfold cells; rw [bigSep_map, bigSep_univ_prod]; rfl

/-- The turns, device by device. -/
theorem over_turns : (bigSep turns fun x => (dutyTok ER x.1 x.2.1 x.2.2 : sProp 𝕄)) = bigSep Finset.univ fun c : Dev nD => toks c := by
  unfold turns
  rw [bigSep_map, bigSep_univ_prod]
  refine bigSep_congr fun c _ => ?_
  rw [BI.bigSep_univ_sum, bigSep_univ_prod (fun ai : Fin 4 × Fin 31 => _), bigSep_four]
  rfl

/-- The protocol's ghost state gives every device its part. -/
theorem fund_cells : BI.own (ER (initOf cells turns)) ⊢ (|==> bigSep Finset.univ (G m) : sProp 𝕄) := by
  iintro HX
  imod (Rounds.fund ER (Rd (args m)) cells turns) $$ HX with ⟨Hst, Hr, Hat, Htok⟩
  imodintro
  ihave Hst := (Entails.of_eq (over_cells fun g => roundState ER (Rd (args m)) g 0)) $$ Hst
  ihave Hat := (Entails.of_eq (over_cells fun g => atPos ER g 0 ∅ 0)) $$ Hat
  ihave Hr := (Entails.of_eq (over_cells fun g => reached ER g 0)) $$ Hr
  ihave Htok := (Entails.of_eq over_turns) $$ Htok
  unfold G; simp only [bigSep_sep']
  isplitl [Hst]; · iexact Hst
  isplitl [Hat]; · iexact Hat
  isplitl [Hr] <;> iassumption

omit [FloatOps F] in
/-- The one counter that outlives the kernel is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own counters and the barrier's are its cells' counters. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : KCell => semVal (cellK c k) 0 : sProp 𝕄) := by
  rw [unscoped_eq, BI.bigSep_univ_sum, bigSep_univ_of_subsingleton ()]
  rfl

/-- Each cell's invariant is set up from its counter and its first round. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KCell => iprop(∃ κ : ℕ, cellInv ER (Rd (args m)) κ (cellK c k)))
          ∗ (bigSep Finset.univ fun k : KCell => atPos ER (cellK c k) 0 ∅ 0) ∗ (bigSep Finset.univ fun k : KCell => reached ER (cellK c k) 0) ∗ toks c) := by
  unfold G
  iintro ⟨Hos, Hus, Hst, Hrest⟩
  ihave Hv := (Entails.of_eq (sems_eq (F := F) c)) $$ [Hos Hus]
  · isplitl [Hus] <;> iassumption
  imod (show iprop((bigSep Finset.univ fun k : KCell => semVal (cellK c k) 0) ∗ bigSep Finset.univ fun k : KCell => roundState ER (Rd (args m)) (cellK c k) 0)
      ⊢ (|={Set.univ}=> bigSep Finset.univ fun k : KCell => iprop(∃ κ : ℕ, cellInv ER (Rd (args m)) κ (cellK c k)) : sProp 𝕄) from by
        rw [← bigSep_sep']
        exact (bigSep_mono fun k _ => (Rounds.body_intro ER (Rd (args m)) (cellK c k)).trans inv_alloc).trans (bigSep_fupd _ _)) $$ [Hv Hst] with Hinv
  · isplitl [Hv] <;> iassumption
  imodintro
  isplitl [Hinv]; · iexact Hinv
  iexact Hrest

/-! ### The turns handed round -/

/-- A device and an iteration, and the same seen from the device addressed. -/
def flip : Dev nD × Fin 31 ≃ Dev nD × Fin 31 where
  toFun x := (peer x.1 x.2, x.2.rev)
  invFun x := (peer x.1 x.2, x.2.rev)
  left_inv x := by
    show (peer (peer x.1 x.2) x.2.rev, x.2.rev.rev) = x
    rw [peer_peer_rev, Fin.rev_rev]
  right_inv x := by
    show (peer (peer x.1 x.2) x.2.rev, x.2.rev.rev) = x
    rw [peer_peer_rev, Fin.rev_rev]

/-- A device and an iteration, moved to the device addressed. -/
def shift : Dev nD × Fin 31 ≃ Dev nD × Fin 31 where
  toFun x := (peer x.1 x.2, x.2)
  invFun x := (peer x.1 x.2.rev, x.2)
  left_inv x := by
    show (peer (peer x.1 x.2) x.2.rev, x.2) = x
    rw [peer_peer_rev]
  right_inv x := by
    show (peer (peer x.1 x.2.rev) x.2, x.2) = x
    rw [peer_rev_peer]

omit [FloatOps F] in
/-- Resources over devices and iterations, handed round along a bijection. -/
theorem move (e : Dev nD × Fin 31 ≃ Dev nD × Fin 31) (Φ : Dev nD → Fin 31 → sProp 𝕄) :
    (bigSep Finset.univ fun c : Dev nD => bigSep Finset.univ fun i : Fin 31 => Φ c i)
      = bigSep Finset.univ fun c : Dev nD => bigSep Finset.univ fun i : Fin 31 => Φ (e (c, i)).1 (e (c, i)).2 := by
  rw [← bigSep_univ_prod (fun x : Dev nD × Fin 31 => Φ x.1 x.2), bigSep_univ_equiv e, bigSep_univ_prod]

/-- Every turn goes to the device that takes it. -/
theorem turns_round : (bigSep Finset.univ fun c : Dev nD => (toks c : sProp 𝕄)) = bigSep Finset.univ fun c : Dev nD => payToks c := by
  unfold toks payToks
  simp only [bigSep_sep']
  rw [move flip (fun c i => (dutyTok ER (barCell c) 0 i : sProp 𝕄)), move shift (fun c i => (dutyTok ER (xCell kRA c i) 0 0 : sProp 𝕄)),
    move shift (fun c i => (dutyTok ER (xCell kRB c i) 0 0 : sProp 𝕄))]
  rfl

/-- A device's part, assembled. -/
theorem ghost_intro (K : Dev nD × KCell → ℕ) (c : Dev nD) :
    iprop(records (args m) K ∗ (bigSep Finset.univ fun k : KCell => atPos ER (cellK c k) 0 ∅ 0) ∗ payToks c) ⊢ G' m c := by
  unfold G' ghost
  iintro ⟨#Hr, Hrest⟩
  iexists K
  isplitr; · iexact Hr
  iexact Hrest

/-- All devices' parts, assembled. -/
theorem regroup :
    (bigSep Finset.univ fun c : Dev nD => iprop((bigSep Finset.univ fun k : KCell => iprop(∃ κ : ℕ, cellInv ER (Rd (args m)) κ (cellK c k)))
          ∗ (bigSep Finset.univ fun k : KCell => atPos ER (cellK c k) 0 ∅ 0) ∗ (bigSep Finset.univ fun k : KCell => reached ER (cellK c k) 0) ∗ toks c) : sProp 𝕄)
      ⊢ bigSep Finset.univ (G' m) := by
  simp only [bigSep_sep']
  rw [turns_round, ← bigSep_univ_prod (fun ck : Dev nD × KCell => iprop(∃ κ : ℕ, cellInv ER (Rd (args m)) κ (cellK ck.1 ck.2))),
    ← bigSep_univ_prod (fun ck : Dev nD × KCell => (reached ER (cellK ck.1 ck.2) 0 : sProp 𝕄))]
  iintro ⟨HI, Hat, #HR, Htok⟩
  ihave HK := (BI.bigSep_exists_pi Finset.univ (fun (ck : Dev nD × KCell) (κ : ℕ) => (cellInv ER (Rd (args m)) κ (cellK ck.1 ck.2) : sProp 𝕄))) $$ HI
  icases HK with ⟨%K, #HI⟩
  iapply (BI.bigSep_with_persistent (R := records (args m) K) fun c _ => ghost_intro m K c)
  isplitr
  · unfold records; isplitl; · iexact HI
    iexact HR
  rw [bigSep_sep']
  isplitl [Hat] <;> iassumption

/-- From the counters and the ghost state to every device's part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ### The rights handed out -/

/-- What is owed at a cell, iteration by iteration. -/
theorem owX_apply (k : Fin 31 → SemLoc sig) (n : ℕ) (d : Dev nD) (B : CellTallies nD τ sig Unit) (g : GSem nD τ sig) : ∀ l : List (Fin 31), l.Nodup →
    owX k n d B l g () = B g () + ∑ i ∈ l.toFinset, if g = ((peer d i : Thread nD τ), k i) then n else 0
  | [], _ => by rw [List.toFinset_nil, Finset.sum_empty, Nat.add_zero]; rfl
  | i :: l, h => by
    have h' := List.nodup_cons.mp h
    unfold owX
    rw [List.toFinset_cons, Finset.sum_insert (by rw [List.mem_toFinset]; exact h'.1), Pi.add_apply, Finsupp.add_apply, owX_apply k n d B g l h'.2, tallyAt_apply]
    simp only [and_true]
    omega

/-- What a device owes at a cell, over all iterations. -/
theorem owX_iters (k : Fin 31 → SemLoc sig) (n : ℕ) (d : Dev nD) (B : CellTallies nD τ sig Unit) (g : GSem nD τ sig) :
    owX k n d B iters g () = B g () + ∑ i : Fin 31, if g = ((peer d i : Thread nD τ), k i) then n else 0 := by
  rw [owX_apply k n d B g iters (by decide)]
  congr 1

/-- Of the devices, just one addresses `c` in iteration `i`. -/
theorem sum_peers (c : Dev nD) (sm : SemLoc sig) (k : Fin 31 → SemLoc sig) (n : ℕ) :
    (∑ d : Dev nD, ∑ i : Fin 31, if ((c : Thread nD τ), sm) = ((peer d i : Thread nD τ), k i) then n else 0) = ∑ i : Fin 31, if sm = k i then n else 0 := by
  rw [Finset.sum_comm]
  refine Finset.sum_congr rfl fun i _ => ?_
  rw [Finset.sum_eq_single (peer c i.rev)]
  · rw [peer_rev_peer]
    by_cases h : sm = k i
    · rw [if_pos h, if_pos (by rw [h])]
    · rw [if_neg h, if_neg fun e => h (congrArg Prod.snd e)]
  · intro d _ hd
    refine if_neg fun e => hd ?_
    have h : c = peer d i := congrArg (fun g : GSem nD τ sig => g.1.1) e
    rw [h, peer_peer_rev]
  · intro h; exact absurd (Finset.mem_univ _) h

/-- What all devices together owe at one cell of a device. -/
theorem owed_at (c : Dev nD) (sm : SemLoc sig) : (∑ d : Dev nD, O₀ d ((c : Thread nD τ), sm) ())
    = (∑ i : Fin 31, if sm = .dma (xsem kRB i) then N else 0) + (∑ i : Fin 31, if sm = .dma (xsem kRA i) then N else 0) + (∑ i : Fin 31, if sm = .reg barS then 1 else 0) := by
  rw [Finset.sum_congr rfl fun d _ => (owX_iters (fun _ => .reg barS) 1 d (owA d) _).trans (congrArg (· + _)
    ((owX_iters (fun i => .dma (xsem kRA i)) N d (owB d) _).trans (congrArg (· + _) (owX_iters (fun i => .dma (xsem kRB i)) N d 0 _)))),
    Finset.sum_add_distrib, Finset.sum_add_distrib, Finset.sum_add_distrib, sum_peers, sum_peers, sum_peers]
  simp

/-- Of thirty-one transfer semaphores of a kind, one is the given one when the kinds agree, none otherwise. -/
theorem sum_x (a a' : Fin 4) (i : Fin 31) : (∑ j : Fin 31, if SemLoc.dma (xsem a i) = SemLoc.dma (xsem a' j) then N else 0) = if a = a' then N else 0 := by
  have h (j : Fin 31) : SemLoc.dma (xsem a i) = SemLoc.dma (xsem a' j) ↔ a = a' ∧ i = j := by
    constructor
    · intro e
      have := csem_inj (a₁ := xK a i) (a₂ := xK a' j) e
      cases this
      exact ⟨rfl, rfl⟩
    · rintro ⟨rfl, rfl⟩; rfl
  simp only [h]
  by_cases ha : a = a'
  · simp [ha]
  · simp [ha]

/-- The right handed out at a barrier cell. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, owed_at]
  simp

/-- The right handed out at a receive cell. -/
theorem launch_x (a : Fin 4) (ha : a = kRA ∨ a = kRB) (c : Dev nD) (i : Fin 31) :
    tallyOn (xCell a c i) (launchCredit (Pipeline.owing O₀) 0 (xCell a c i)) = (tallyAt (xCell a c i) () N : CellTallies nD τ sig Unit) := by
  unfold tallyAt; refine congrArg _ (Finsupp.ext fun u => ?_); cases u
  rw [Pipeline.launchCredit_owing, Finsupp.single_eq_same, owed_at, sum_x, sum_x]
  rcases ha with rfl | rfl <;> simp [show kRA ≠ kRB by decide, show kRB ≠ kRA by decide]

/-- The rights handed out at launch are those a device needs. -/
theorem credits_intro (c : Dev nD) : (Pipeline.launchCred O₀ c : sProp 𝕄) ⊢ credits c := by
  unfold Pipeline.launchCred
  refine (bigSep_subset (Finset.subset_univ (Finset.univ.map ⟨csem, csem_inj⟩))).trans ?_
  rw [bigSep_map, bigSep_cells]
  unfold credits
  show (_ : sProp 𝕄) ⊢ (_ : sProp 𝕄)
  iintro ⟨HB, -, -, -, HA, HR⟩
  isplitl [HB]
  · iapply (Entails.of_eq (congrArg (fun t => (cred t : sProp 𝕄)) (launch_bar c))); iexact HB
  isplitl [HA]
  · iapply (Entails.of_eq (bigSep_congr (s := Finset.univ) fun (i : Fin 31) _ => congrArg (fun t => (cred t : sProp 𝕄)) (launch_x kRA (.inl rfl) c i))); iexact HA
  · iapply (Entails.of_eq (bigSep_congr (s := Finset.univ) fun (i : Fin 31) _ => congrArg (fun t => (cred t : sProp 𝕄)) (launch_x kRB (.inr rfl) c i))); iexact HR

/-! ## The launch's side conditions -/

/-- What a device starts from, out of what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

/-- Before the body, the launch's scratch buffers are added. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- After the body, the counters and the scratch buffers are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hs, Hz⟩
  ihave Hz := (Entails.of_eq (sems_eq (F := F) c).symm) $$ Hz
  icases Hz with ⟨H1, H2⟩
  isplitl [H1]; · iexact H1
  isplitl [H2] <;> iassumption

/-- A semaphore that is no cell's is recognised as none. -/
theorem kind_none (sm : SemLoc sig) (h : ∀ k, csem k ≠ sm) : kind sm = none := by
  unfold kind
  rw [List.find?_eq_none]
  intro k _ hk
  exact h k (of_decide_eq_true hk)

set_option maxRecDepth 100000 in
/-- The staging semaphores are no cell's. -/
theorem stage_other : ∀ (w : Fin cfg0.W) (s : Fin (cfg0.win w).nbuf) (k : KCell), csem k ≠ .dma ((cfg0.win w).sem s) := by decide +kernel

/-- Awaiting a staging transfer is allowed whatever is owed. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 (by rw [kind_none _ (stage_other w s)]; exact Nat.le_refl 0) _ (by
      rcases t with ⟨_ | _, ht⟩
      · exact above_O₀ c
      · exact above_zero 0)

/-! ## The run -/

/-- What an array ends holding. -/
def finalA (c : Dev nD) (w : Fin cfg0.W) : Buf (Elt F) ((cfg0.win w).arr.view.loc (c : Thread nD τ)) := (dats m ρ 0 c).arrAt w cfg0.N

/-- Every device's arrays end holding that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run ends, each device's arrays at the stated contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is never written. -/
theorem finalA_arg (c : Dev nD) : finalA m ρ c (0 : Fin 2) = m ((c : Thread nD τ).loc main_arg0) :=
  (dats (F := F) m ρ 0 c).arrAt_in (0 : Fin 2) rfl _

end Cert.AllReduce

end
-- ==== Proof.Value.lean ====
/-
The value over the extended reals. Each device's block of the result is the function of the sum of the thirty-two
devices' rows, added in the device's own order; the reference adds the thirty-two slices of the whole array. Addition
being commutative and associative, the two sums are equal, and so is the function of them.
-/
module

public import proofs.«01_k».proof.Proof.Run
public import proofs.«01_k».proof.Proof.Gen.ReferenceIdeal.Run
public import proofs.«01_k».proof.Proof.Gen.Kernel
public import proofs.«01_k».proof.Defs
public import Idealize.ShloMosaic.Lib.IdealHost
public import Idealize.ShloMosaic.Lib.Pointwise.Reduce
public import Idealize.ShloMosaic.Lib.Pipeline.Value
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL.Sem
open Idealize.ShloMosaic.ValueIdx
open scoped BigOperators

/-! ## What the arrays end holding -/

section
variable {F : FTy → Type} [FloatOps F] (m : (ℓ : Loc nD τ sig) → Buf (Elt F) ℓ) (ρ : Dev nD → PrngReg)

/-- The body sees the argument array itself. -/
theorem args_eq (c : Dev nD) : args m c = m ((c : Thread nD τ).loc main_arg0) := by
  funext x
  unfold args
  show m ((c : Thread nD τ).loc main_arg0) _ = m ((c : Thread nD τ).loc main_arg0) x
  congr 1
  funext a
  apply Fin.ext
  fin_cases a <;> exact (Nat.zero_add _).trans (Nat.one_mul _)

/-- The result array ends holding every device's block in its rows. -/
theorem finalA_res (c : Dev nD) : finalA m ρ c (1 : Fin 2) = outAll (args m) :=
  (dats (F := F) m ρ 0 c).arrAt_eq_of_after_last (1 : Fin 2) t₀ (by decide +kernel) (outAll (args m)) fun j => rfl

end

/-! ## The function of a sum, and the sum -/

/-- The function applied to a sum: `tanh s · s · s + max(s, 0)³`. -/
def fOf (s : EReal) : EReal := Ideal.tanh s * s * s + max s 0 * max s 0 * max s 0

/-- The finished block is the function of the accumulated sum. -/
theorem accDone_apply (a : FVec Ideal S32x512 .f32) (j : S32x512.Idx) : accDone a j = fOf (a j) := by
  show Ideal.tanh (a j) * a j * a j + max (a j) (Ideal.ofBits .f32 0x00000000#32) * max (a j) (Ideal.ofBits .f32 0x00000000#32)
    * max (a j) (Ideal.ofBits .f32 0x00000000#32) = _
  rw [Ideal.ofBits_zero_f32]
  rfl

/-- An accumulation, at an index, adds the rows' elements one after another. -/
theorem foldl_apply (g : Fin 31 → S32x512.Idx → EReal) (j : S32x512.Idx) (l : List (Fin 31)) :
    ∀ a : FVec Ideal S32x512 .f32, l.foldl (fun a i => addf a (extf .f32 (show FVec Ideal S32x512 .bf16 from g i) bitsLt_bf16_f32)) a j
      = a j + (l.map fun i => g i j).sum := by
  induction l with
  | nil => intro a; exact (add_zero _).symm
  | cons i l ih =>
    intro a
    rw [List.foldl_cons, ih, List.map_cons, List.sum_cons]
    exact add_assoc (a j) (g i j) _

/-- A device and those it receives from are all the devices. -/
theorem sum_devices (c : Dev nD) (g : Dev nD → EReal) : g c + (iters.map fun i => g (peer c i.rev)).sum = ∑ d : Dev nD, g d := by
  have hi : (iters.map fun i => g (peer c i.rev)).sum = ∑ i : Fin 31, g (peer c i.rev) := by
    rw [Fin.sum_univ_def]; rfl
  have hr : (∑ i : Fin 31, g (peer c i.rev)) = ∑ i : Fin 31, g (peer c i) := Equiv.sum_comp Fin.revPerm fun i => g (peer c i)
  have hp : (∑ i : Fin 31, g (peer c i)) = ∑ d ∈ Finset.univ.erase c, g d := by
    refine Finset.sum_nbij (peer c) (fun i _ => ?_) (fun i _ i' _ h => peer_inj c h) (fun d hd => ?_) (fun _ _ => rfl)
    · exact Finset.mem_erase.mpr ⟨peer_ne c i, Finset.mem_univ _⟩
    · obtain ⟨i, hi⟩ := exists_peer c d (Finset.ne_of_mem_erase hd)
      exact ⟨i, Finset.mem_coe.mpr (Finset.mem_univ _), hi⟩
  rw [hi, hr, hp, Finset.add_sum_erase _ _ (Finset.mem_univ c)]

/-- A device's block of the result at an index: the function of the sum of every device's row there. -/
theorem outB_apply (X : Args Ideal) (c : Dev nD) (j : S32x512.Idx) :
    outB X c j = fOf (∑ d : Dev nD, X d ((ownR c).emb j)) := by
  unfold outB
  rw [accDone_apply]
  refine congrArg fOf ?_
  unfold total
  rw [foldl_apply (fun i => rowsOf (X (peer c i.rev)) c) j iters]
  refine Eq.trans ?_ (sum_devices c fun d => X d ((ownR c).emb j))
  refine congrArg (· + _) ?_
  unfold accInit k0_pay2
  rw [shapeCast_self]
  rfl

/-- The whole result at an index. -/
theorem outAll_apply (X : Args Ideal) (x : S1024x512.Idx) : outAll X x = fOf (∑ d : Dev nD, X d x) := by
  obtain ⟨b, j, rfl⟩ := rows_cover x
  rw [outAll_rows, outB_apply]

/-! ## The reference -/

end Cert.AllReduce

namespace Cert.AllReduce.Ref

open Cert.ReferenceIdeal Cert.ReferenceIdeal.Gen
open Idealize.ShloMosaic
open Idealize.ShloMosaic.TcCoe
open Idealize.SL.Sem
open Idealize.ShloMosaic.ValueIdx
open scoped BigOperators

/-- The reference's sum: the whole array cut in thirty-two, the slices added, in the format of the result. -/
def refSum (W : FVec Ideal S32768x512 .bf16) : FVec Ideal S1024x512 .bf16 :=
  truncf .bf16 (Host.reduceAdd (extf .f32 (shapeCast S32x1024x512 W shapeCasts_S32768x512_S32x1024x512) bitsLt_bf16_f32)
    (constant S_ .f32 0x00000000#32) reducesTo_S32x1024x512_S1024x512_d0 h_S_) bitsLt_bf16_f32

/-- The reference's sum at an index adds the blocks of the whole array there. -/
theorem refSum_apply (W : FVec Ideal S32768x512 .bf16) (x : S1024x512.Idx) :
    refSum W x = ∑ d : Fin 32, (Layout.block ⟨2, ![1024, 512]⟩ ⟨2, ![32768, 512]⟩ 0 32 d W) x := by
  show Ideal.hostReduceAdd reducesTo_S32x1024x512_S1024x512_d0 (shapeCast S32x1024x512 W shapeCasts_S32768x512_S32x1024x512)
    (Ideal.ofBits .f32 0x00000000#32) x = _
  rw [Ideal.hostReduceAdd_r3_a0, Ideal.ofBits_zero_f32, zero_add]
  refine Finset.sum_congr rfl fun d _ => ?_
  rw [Layout.block_apply]
  refine shapeCast_apply W _ _ _ ?_
  rw [Shape.rowMajor_val_two, Shape.rowMajor_val_three]
  show (d.val * 1024 + (x 0).val) * 512 + (x 1).val = (d.val * 1024 + (x 0).val) * 512 + (x 1).val
  rfl

/-- The reference's result. -/
def refOut (W : FVec Ideal S32768x512 .bf16) : FVec Ideal S1024x512 .bf16 :=
  addf (mulf (mulf (Host.tanh (refSum W)) (refSum W)) (refSum W))
    (mulf (mulf (maximumf (refSum W) (broadcastInDim S1024x512 ![] bcast_S_S1024x512 (constant S_ .bf16 0x0000#16)))
        (maximumf (refSum W) (broadcastInDim S1024x512 ![] bcast_S_S1024x512 (constant S_ .bf16 0x0000#16))))
      (maximumf (refSum W) (broadcastInDim S1024x512 ![] bcast_S_S1024x512 (constant S_ .bf16 0x0000#16))))

/-- The reference's result at an index: the same function of its sum. -/
theorem refOut_apply (W : FVec Ideal S32768x512 .bf16) (x : S1024x512.Idx) : refOut W x = fOf (refSum W x) := by
  show Ideal.tanh (refSum W x) * refSum W x * refSum W x
    + max (refSum W x) (Ideal.ofBits .bf16 0x0000#16) * max (refSum W x) (Ideal.ofBits .bf16 0x0000#16)
      * max (refSum W x) (Ideal.ofBits .bf16 0x0000#16) = _
  rw [Ideal.ofBits_zero_bf16]
  rfl

/-- Every run of the reference ends with its result array at `refOut` and its argument unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v11) = refOut (m (((0 : Dev nD) : Thread nD τ).loc main_arg0))
      ∧ r.2.mem (((0 : Dev nD) : Thread nD τ).loc main_arg0) = m (((0 : Dev nD) : Thread nD τ).loc main_arg0) :=
  (θ_run defs _ _).mono (fun _ h => h 0) (Cert.ReferenceIdeal.Value.run (F := Ideal) m ρ)

end Cert.AllReduce.Ref

namespace Cert.AllReduce

open Idealize.ShloMosaic
open Idealize.ShloMosaic.TcCoe
open Idealize.SL.Sem

/-! ## The claims -/

set_option maxRecDepth 100000 in
/-- The kernel as printed and the kernel as printed for the extended reals run the same bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl
  | ⟨_ + 1, h⟩, _ => exact absurd h (Nat.not_lt.2 (Nat.le_add_left _ _))

set_option maxRecDepth 100000 in
/-- The two are one program. -/
theorem programs_eq {F : FTy → Type} [FloatOps F] : Cert.Kernel.defs (F := F) = Cert.KernelIdeal.defs (F := F) := by
  unfold Cert.Kernel.defs Cert.KernelIdeal.defs
  rw [bodies_eq]
  rfl

/-- The kernel runs, its argument unchanged, every counter at zero, at bit patterns. -/
theorem frame_kernel : Cert.quiescent_Kernel := by
  intro m ρ _
  rw [programs_eq]
  exact (θ_run Cert.KernelIdeal.defs _ _).mono (fun _ h => ⟨fun c => (h.1 c (0 : Fin 2)).trans (finalA_arg (F := Bits) m ρ c), h.2⟩)
    (run_main (F := Bits) m ρ)

/-- The same over the extended reals. -/
theorem frame_ideal : Cert.quiescent_KernelIdeal := fun m ρ _ =>
  (θ_run Cert.KernelIdeal.defs _ _).mono (fun _ h => ⟨fun c => (h.1 c (0 : Fin 2)).trans (finalA_arg (F := Ideal) m ρ c), h.2⟩)
    (run_main (F := Ideal) m ρ)

/-- The reference runs, its argument unchanged; it has no counter. -/
theorem frame_reference : Cert.quiescent_ReferenceIdeal := fun m ρ _ =>
  (θ_run Cert.ReferenceIdeal.defs _ _).mono
    (fun r h => ⟨fun c => by obtain rfl : c = 0 := Subsingleton.elim _ _; exact h.2, sem_eq_zero_of_no_sems (by decide) r.2⟩)
    (Ref.run m ρ)

/-- When the devices hold the blocks of the reference's argument, the kernel's result is the reference's. -/
theorem outAll_eq (m : (ℓ : Loc Cert.KernelIdeal.nD Cert.KernelIdeal.τ Cert.KernelIdeal.sig) → Buf (Elt Ideal) ℓ)
    (W : FVec Ideal Cert.ReferenceIdeal.S32768x512 .bf16)
    (h : ∀ c : Dev Cert.KernelIdeal.nD, m ((c.tc : Thread Cert.KernelIdeal.nD Cert.KernelIdeal.τ).loc Cert.KernelIdeal.main_arg0)
      = Layout.block ⟨2, ![1024, 512]⟩ ⟨2, ![32768, 512]⟩ 0 32 c W) : outAll (args m) = Ref.refOut W := by
  funext x
  rw [outAll_apply, Ref.refOut_apply, Ref.refSum_apply]
  exact congrArg fOf (Finset.sum_congr rfl fun d _ => congrFun ((args_eq m d).trans (h d)) x)

/-- The kernel's result on every device is the reference's. -/
theorem algebraic : Cert.algebraic_KernelIdeal_ReferenceIdeal := by
  intro m ρ m' ρ' _ hagree
  refine ⟨Ref.refOut (m' (((0 : Dev Cert.ReferenceIdeal.nD).tc : Thread Cert.ReferenceIdeal.nD Cert.ReferenceIdeal.τ).loc Cert.ReferenceIdeal.main_arg0)), ?_, Ref.run m' ρ'⟩
  refine (θ_run Cert.KernelIdeal.defs _ _).mono (fun _ h c => ⟨?_, (h.1 c (0 : Fin 2)).trans (finalA_arg (F := Ideal) m ρ c)⟩) (run_main (F := Ideal) m ρ)
  exact (h.1 c (1 : Fin 2)).trans ((finalA_res m ρ c).trans (outAll_eq m _ hagree))

end Cert.AllReduce

end
-- ==== Proof.lean ====
/-
The claims about the kernel and its reference, gathered: the printed programs' side conditions hold, each program runs
and leaves its argument and its counters as it found them, and over the extended reals the kernel's result is the
reference's on every device.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_reference, trivial, Cert.AllReduce.algebraic⟩

end Cert.Proof

end
